-- ==== Defs.lean ====
def Pre_Kernel [hPre_target_in_range : Cert.Pre_target_in_range.Facts] (m : (ℓ : Loc Cert.Kernel.nD Cert.Kernel.τ Cert.Kernel.sig) → Buf (Elt Bits) ℓ) : Prop :=
  ∀ c : Dev Cert.Kernel.nD,
    (Cert.Pre_target_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_target_in_range : Cert.Pre_target_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_target_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_target_in_range : Cert.Pre_target_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_target_in_range : Cert.Pre_target_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "smooth" .f32 0x35863815#32 ((1 / 999990 : ℝ) : EReal)
  ∧ IdealRules.named_const.Statement Cert.KernelIdeal.κ "entropy" .f32 0xC4BCF9D7#32 (((512 / 5) * (Real.log (43046721 / 111110000000000)) : ℝ) : EReal)
  ∧ IdealRules.named_const.Statement Cert.KernelIdeal.κ "gap" .f32 0x3F666656#32 ((89999 / 99999 : ℝ) : EReal)

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_target_in_range : Cert.Pre_target_in_range.Facts) (hPre_finite_and_in_range : Cert.Pre_finite_and_in_range.Facts),
    quiescent_Kernel (hKernel := hKernel) (hPre_target_in_range := hPre_target_in_range)
    ∧ quiescent_KernelIdeal (hKernelIdeal := hKernelIdeal) (hPre_target_in_range := hPre_target_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S1024x100000 : Shape := ⟨2, ![1024, 100000]⟩
abbrev S1024 : Shape := ⟨1, ![1024]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x100000 .f32) (main_arg1 : IVec S1024 32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 100000#32
  let main_v6 : IVec S1024 32 := broadcastInDim S1024 ![] bcast_S_S1024 main_c_1
  let main_v7 : IVec S1024 1 := cmpi .slt main_arg1 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  main_v10
-- ==== Pre_target_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S102400000 : Shape := ⟨1, ![102400000]⟩
abbrev S32x16 : Shape := ⟨2, ![32, 16]⟩
abbrev S32 : Shape := ⟨1, ![32]⟩
abbrev S16 : Shape := ⟨1, ![16]⟩
abbrev S_ : Shape := ⟨0, ![]⟩
abbrev S1x16 : Shape := ⟨2, ![1, 16]⟩
abbrev S25000x4096 : Shape := ⟨2, ![25000, 4096]⟩
abbrev S1x1 : Shape := ⟨2, ![1, 1]⟩
abbrev S200x4096 : Shape := ⟨2, ![200, 4096]⟩
abbrev S1x200x4096 : Shape := ⟨3, ![1, 200, 4096]⟩
abbrev S1 : Shape := ⟨1, ![1]⟩
abbrev S1x1x1 : Shape := ⟨3, ![1, 1, 1]⟩
abbrev S1x32x16 : Shape := ⟨3, ![1, 32, 16]⟩

abbrev nBuf : Table → Nat
  | .hbm => 7
  | .local .tc .vmem => 3
  | .local .tc .smem => 1
  | .local .scVector .vmem => 4
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S102400000, .f32⟩
  | .hbm, ⟨3, _⟩ => ⟨S32x16, .f32⟩
  | .hbm, ⟨4, _⟩ => ⟨S25000x4096, .f32⟩
  | .hbm, ⟨5, _⟩ => ⟨S1x1, .f32⟩
  | .hbm, ⟨6, _⟩ => ⟨S_, .f32⟩
  | .local .tc .vmem, ⟨0, _⟩ => ⟨S200x4096, .f32⟩
  | .local .tc .vmem, ⟨1, _⟩ => ⟨S200x4096, .f32⟩
  | .local .tc .vmem, ⟨2, _⟩ => ⟨S32x16, .f32⟩
  | .local .tc .smem, ⟨0, _⟩ => ⟨S1x1, .f32⟩
  | .local .scVector .vmem, ⟨0, _⟩ => ⟨S32, .i32⟩
  | .local .scVector .vmem, ⟨1, _⟩ => ⟨S32, .i32⟩
  | .local .scVector .vmem, ⟨2, _⟩ => ⟨S32, .f32⟩
  | .local .scVector .vmem, ⟨3, _⟩ => ⟨S16, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 3
abbrev cc1_sem0_1 : DmaSem sig := 4
abbrev cc1_sem1_0 : DmaSem sig := 5
abbrev cc1_sem2_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r1 : BitVec 32 := 0#32
  ![v1.toNat, 0]
abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S200x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "entropy" => some (((512 / 5) * (Real.log (43046721 / 111110000000000)) : ℝ) : EReal)
  | "gap" => some ((89999 / 99999 : ℝ) : EReal)
  | "smooth" => some ((1 / 999990 : ℝ) : EReal)
  | _ => none
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 35
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1024x100000, .f32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x1, .i32⟩
  | .hbm, ⟨27, _⟩ => ⟨S1024x2, .i32⟩
  | .hbm, ⟨28, _⟩ => ⟨S1024, .f32⟩
  | .hbm, ⟨29, _⟩ => ⟨S1024x100000, .f32⟩
  | .hbm, ⟨30, _⟩ => ⟨S1024x100000, .f32⟩
  | .hbm, ⟨31, _⟩ => ⟨S1024x100000, .f32⟩
  | .hbm, ⟨32, _⟩ => ⟨S1024x100000, .f32⟩
  | .hbm, ⟨33, _⟩ => ⟨S_, .f32⟩
  | .hbm, ⟨34, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Proof.Setup.lean ====
/-
  The program as its launch theorem sees it: the SparseCore configuration, the body table, the ghost algebra of the
  proof, and what the one SparseCore call is handed and hands back, tile by tile.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The configuration -/

/-- The labels under the SparseCore launch: the kernels' bodies and the one TensorCore pipeline. -/
abbrev ΛP : Labels := Pipeline.Sig Λ₀ (Fin 1) fun p => (pcfgs (F := F) p).Adm
/-- The program's one SparseCore call. -/
abbrev K : SparseCore.Cfg τ sig (ΛP (F := F)) 1 := sc (F := F)
/-- The body table under the SparseCore launch. -/
abbrev D : Defs nD τ sig (Elt F) (ΛP (F := F)) := Pipeline.defs pcfgs defs₀
/-- No loop of a body is bounded by a variant. -/
abbrev 𝒱₀ : Variants := Variants.none
/-- The same for the lifted table. -/
abbrev 𝒱 : Variants := 𝒱₀.lift
/-- The variant every task starts at. -/
abbrev v₀ : 𝒱.V := Sum.inl none

/-- Sixteen tiles per SparseCore take part. -/
theorem nSub_zero : (K (F := F)).nSub 0 = 16 := rfl
/-- Two SparseCores take part. -/
theorem nCore_zero : (K (F := F)).nCore 0 = 2 := rfl

/-- The launch semaphores are distinct where they must be, none is scoped, and no scratch buffer is shared. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost algebra: handshake rounds, staging rounds, transfer counters -/

/-- The launch handshakes' rounds. -/
abbrev UH : Type := URounds (GSem nD τ sig) ℕ
/-- The pipeline's staging rounds. -/
abbrev UP : Type := URounds (GSem nD τ sig) Unit
/-- All three components side by side. -/
abbrev UU : Type := UH × (UP × Counters)

local notation "𝕄" => MT nD τ sig (HIx 1) (Elt F) ℕ UU ℕ

/-- Where the handshakes' rounds live. -/
abbrev EH : Emb UH (MT nD τ sig (HIx 1) (Elt F) ℕ UU ℕ) := embL
/-- Where the staging rounds live. -/
def EP : Emb UP (MT nD τ sig (HIx 1) (Elt F) ℕ UU ℕ) := (Emb.inl : Emb UP (UP × Counters)).trans embR

/-- The program's cells lie in the component that the launch gives out. -/
instance EP_landsIn : (EP (F := F)).LandsIn (upEmb : UEmb _ 𝕄) := by
  unfold EP; infer_instance

/-! ## The arrays -/

/-- The logits. -/
abbrev xLoc (d : Dev nD) : Loc nD τ sig := (SparseCore.T d).loc main_arg0
/-- The targets. -/
abbrev tLoc (d : Dev nD) : Loc nD τ sig := (SparseCore.T d).loc main_arg1
/-- The logits as one long row. -/
abbrev fLoc (d : Dev nD) : Loc nD τ sig := (SparseCore.T d).loc main_v0
/-- The partial sums. -/
abbrev oLoc (d : Dev nD) : Loc nD τ sig := (SparseCore.T d).loc main_v1
/-- The logits as the reduction's rows. -/
abbrev bLoc (d : Dev nD) : Loc nD τ sig := (SparseCore.T d).loc main_v2
/-- The reduction's result. -/
abbrev sLoc (d : Dev nD) : Loc nD τ sig := (SparseCore.T d).loc main_v3
/-- The kernel's result. -/
abbrev rLoc (d : Dev nD) : Loc nD τ sig := (SparseCore.T d).loc main_v4

/-- The targets split into 32 parts. -/
theorem tdiv : 32 ∣ S1024.size 0 := ⟨32, rfl⟩
/-- The partial sums split into 32 rows. -/
theorem odiv : 32 ∣ S32x16.size 0 := ⟨1, rfl⟩
/-- The `w`-th part of the targets. -/
abbrev tRow (w : Fin 32) : Rect S1024 := Rect.part (s := S1024) (a₀ := 0) tdiv w
/-- The `w`-th row of the partial sums. -/
abbrev oRow (w : Fin 32) : Rect S32x16 := Rect.part (s := S32x16) (a₀ := 0) odiv w
/-- The entries of that part. -/
abbrev tSet (w : Fin 32) : Finset S1024.Idx := (tRow w).set
/-- The entries of that row. -/
abbrev oSet (w : Fin 32) : Finset S32x16.Idx := (oRow w).set

/-- The row of tile `s` of SparseCore `c`: it works on row `2 s + c` of the targets and of the sums. -/
def rowOf (c : Fin 2) (s : Fin 16) : Fin 32 := ⟨2 * s.val + c.val, by omega⟩

/-- The read share of the flat array each of the thirty-two tiles is lent. -/
abbrev fShare (w : Fin 32) : PosShare TreeShare := pieceOf fullShare 32 (by norm_num) w

/-! ## What the tiles compute -/

/-- The place of class `t` of row `n` in the flat array. -/
def flatIx (n t : ℕ) : S102400000.Idx := ix1 ⟨(100000 * n + t) % 102400000, Nat.mod_lt _ (by norm_num)⟩

/-- The flat array's word at row `n`'s target. -/
def pick (xf : S102400000.Idx → F .f32) (tg : S1024.Idx → BitVec 32) (n : Fin 1024) : F .f32 :=
  xf (flatIx n.val (tg (ix1 n)).toNat)

/-- The tiles' result: row `w`, lane `l` is zero plus the picked words of rows `32 w + l` and `32 w + 16 + l`. -/
def sums (xf : S102400000.Idx → F .f32) (tg : S1024.Idx → BitVec 32) : S32x16.Idx → F .f32 := fun p =>
  FloatOps.addf (FloatOps.addf (Scalar.ofBits .f32 0x00000000#32)
      (pick xf tg ⟨32 * (p 0).val + (p 1).val, by have := idx2_lt0 p; have := idx2_lt1 p; omega⟩))
    (pick xf tg ⟨32 * (p 0).val + 16 + (p 1).val, by have := idx2_lt0 p; have := idx2_lt1 p; omega⟩)

/-! ## What the handshakes carry -/

section Carry

variable (tg : (d : Dev nD) → Buf (Elt F) (tLoc d)) (xf : (d : Dev nD) → Buf (Elt F) (fLoc d)) (o₀ : (d : Dev nD) → Buf (Elt F) (oLoc d))

/-- Row `w` of the targets, tile `w`'s share of the flat array, and row `w` of the results at contents `o`. -/
abbrev tilePts (d : Dev nD) (w : Fin 32) (o : Buf (Elt F) (oLoc d)) : sProp 𝕄 :=
  iprop((tLoc d ↦[tSet w]{fullShare} tg d) ∗ (fLoc d ↦{fShare w} xf d) ∗ oLoc d ↦[oSet w]{fullShare} o)

/-- The call hands every tile its pieces, the results at their launch contents, and gets them back with the results
    written. A SparseCore is handed its sixteen tiles' pieces together. -/
def P : (K (F := F)).Pay (nD := nD) (Val := Elt F) (Name := ℕ) (U := UU) where
  st := fun q d c => match q with
    | 0 => bigSep Finset.univ fun i : Fin 16 => tilePts tg xf d (rowOf (Fin.cast nCore_zero c) i) (o₀ d)
  dn := fun q d c => match q with
    | 0 => bigSep Finset.univ fun i : Fin 16 => tilePts tg xf d (rowOf (Fin.cast nCore_zero c) i) (sums (xf d) (tg d))
  go := fun q d c i => match q with
    | 0 => tilePts tg xf d (rowOf (Fin.cast nCore_zero c) (Fin.cast nSub_zero i)) (o₀ d)
  td := fun q d c i => match q with
    | 0 => tilePts tg xf d (rowOf (Fin.cast nCore_zero c) (Fin.cast nSub_zero i)) (sums (xf d) (tg d))
  x := fun _ _ => iprop(emp)

/-- What the handshakes carry can be stored in an invariant. -/
instance P_storable : (P (F := F) tg xf o₀).IsStorable where
  st q d c := match q with
    | 0 => (inferInstance : BI.Storable (upEmb : UEmb _ 𝕄)
        (bigSep Finset.univ fun i : Fin 16 => tilePts tg xf d (rowOf (Fin.cast nCore_zero c) i) (o₀ d)))
  dn q d c := match q with
    | 0 => (inferInstance : BI.Storable (upEmb : UEmb _ 𝕄)
        (bigSep Finset.univ fun i : Fin 16 => tilePts tg xf d (rowOf (Fin.cast nCore_zero c) i) (sums (xf d) (tg d))))
  go q d c i := match q with
    | 0 => (inferInstance : BI.Storable (upEmb : UEmb _ 𝕄)
        (tilePts tg xf d (rowOf (Fin.cast nCore_zero c) (Fin.cast nSub_zero i)) (o₀ d)))
  td q d c i := match q with
    | 0 => (inferInstance : BI.Storable (upEmb : UEmb _ 𝕄)
        (tilePts tg xf d (rowOf (Fin.cast nCore_zero c) (Fin.cast nSub_zero i)) (sums (xf d) (tg d))))

/-- A SparseCore's pieces are its tiles' pieces, handed out and collected as they are. -/
theorem vecSplit : (K (F := F)).VecSplit' (P tg xf o₀) 0 := by
  intro d c
  show (bigSep Finset.univ fun i : Fin 16 => tilePts tg xf d (rowOf (Fin.cast nCore_zero c) i) (o₀ d)) ⊢ |={Set.univ}=> iprop(
    (bigSep Finset.univ fun i : Fin 16 => tilePts tg xf d (rowOf (Fin.cast nCore_zero c) i) (o₀ d))
    ∗ ((bigSep Finset.univ fun i : Fin 16 => tilePts tg xf d (rowOf (Fin.cast nCore_zero c) i) (sums (xf d) (tg d)))
      -∗ bigSep Finset.univ fun i : Fin 16 => tilePts tg xf d (rowOf (Fin.cast nCore_zero c) i) (sums (xf d) (tg d))))
  iintro H; imodintro
  isplitl [H]; · iexact H
  iintro H; iexact H

/-- Every target names one of the 100000 classes. -/
def InRange : Prop := ∀ (d : Dev nD) (j : S1024.Idx), (tg d j).toNat < 100000

end Carry

end Cert.Proof

end
-- ==== Proof.Tile.lean ====
/-
  One tile's task: fetch the row of targets, form the flat places, gather the words they name, add the two halves, write
  the row of sums.
-/
module

public import proofs.«01_k».proof.Proof.Setup
public import Idealize.ShloMosaic.Lib.Pipeline.Value
public import Idealize.ShloMosaic.Lib.Writes
public import Idealize.ShloMosaic.Lib.Exec.Geometry

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "fV" => (Memref.whole Cert.KernelIdeal.main_v0_scv : Memref Cert.KernelIdeal.sig Kind.scVector Space.hbm Cert.KernelIdeal.S102400000 EltTy.f32)
local notation "tV" => (Memref.whole Cert.KernelIdeal.main_arg1_scv : Memref Cert.KernelIdeal.sig Kind.scVector Space.hbm Cert.KernelIdeal.S1024 EltTy.i32)
local notation "oV" => (Memref.whole Cert.KernelIdeal.main_v1_scv : Memref Cert.KernelIdeal.sig Kind.scVector Space.hbm Cert.KernelIdeal.S32x16 EltTy.f32)
local notation "gV" => (Memref.whole Cert.KernelIdeal.cc0_scratch0 : Memref Cert.KernelIdeal.sig Kind.scVector Space.vmem Cert.KernelIdeal.S32 EltTy.i32)
local notation "pV" => (Memref.whole Cert.KernelIdeal.cc0_scratch1 : Memref Cert.KernelIdeal.sig Kind.scVector Space.vmem Cert.KernelIdeal.S32 EltTy.i32)
local notation "wV" => (Memref.whole Cert.KernelIdeal.cc0_scratch2 : Memref Cert.KernelIdeal.sig Kind.scVector Space.vmem Cert.KernelIdeal.S32 EltTy.f32)
local notation "aV" => (Memref.whole Cert.KernelIdeal.cc0_scratch3 : Memref Cert.KernelIdeal.sig Kind.scVector Space.vmem Cert.KernelIdeal.S16 EltTy.f32)

section Tile

variable (tg : (d : Dev nD) → Buf (Elt F) (tLoc d)) (xf : (d : Dev nD) → Buf (Elt F) (fLoc d)) (o₀ : (d : Dev nD) → Buf (Elt F) (oLoc d))
variable (d : Dev nD) (L : grid0.Coords)

/-- The SparseCore and the subcore a task's coordinates name. -/
abbrev cV (L : grid0.Coords) : Fin τ.nSC := (L 0).castLE hcore0
abbrev jV (L : grid0.Coords) : Fin τ.nSub := (L 1).castLE hsub0
/-- There are two SparseCores. -/
theorem bound_zero : grid0.bound 0 = 2 := rfl
/-- A SparseCore has sixteen tiles. -/
theorem bound_one : grid0.bound 1 = 16 := rfl
/-- The row a task's coordinates name. -/
abbrev wL (L : grid0.Coords) : Fin 32 := rowOf (Fin.cast bound_zero (L 0)) (Fin.cast bound_one (L 1))

/-- The row of targets, the row of sums and the whole flat array, as the task addresses them. -/
abbrev tRectK (L : grid0.Coords) : Rect S1024 := Rect.unit (s := S1024) (k0_off1 L) S32.size (k0_off1_inb L)
abbrev oRectK (L : grid0.Coords) : Rect S32x16 := Rect.unit (s := S32x16) (k0_off2 L) S1x16.size (k0_off2_inb L)
abbrev tRowK (L : grid0.Coords) : Memref sig .scVector .hbm S32 .i32 := (tV).slice (tRectK L) (fun _ => rfl)
abbrev oRowK (L : grid0.Coords) : Memref sig .scVector .hbm S16 .f32 := ((oV).slice (oRectK L) (fun _ => rfl)).squeeze S16 squeezes_S1x16_S16
abbrev fAllK : Memref sig .scVector .hbm S102400000 .f32 :=
  (fV).slice (Rect.unit (s := S102400000) ![0] S102400000.size inb_S102400000_S102400000_0) (fun _ => rfl)

/-- The task's row of targets is row `2 s + c`. -/
theorem tRectK_eq : tRectK L = tRow (wL L) := by
  unfold tRectK tRow Rect.part Rect.block
  congr 1 <;> funext a
  · rw [k0_off1_eq]
    match a with
    | 0 =>
      show 64 * (L 1).val + 32 * (L 0).val = (2 * (L 1).val + (L 0).val) * 32
      omega
  · match a with
    | 0 => simp [Shape.partSize]
/-- The task's row of sums is row `2 s + c`. -/
theorem oRectK_eq : oRectK L = oRow (wL L) := by
  unfold oRectK oRow Rect.part Rect.block
  congr 1 <;> funext a
  · rw [k0_off2_eq]
    match a with
    | 0 =>
      show 2 * (L 1).val + (L 0).val = (2 * (L 1).val + (L 0).val) * 1
      omega
    | 1 => simp [Shape.partIx, Shape.partSize]
  · match a with
    | 0 => simp [Shape.partSize]
    | 1 => simp [Shape.partSize]

/-- The slice of the targets that a tile copies is its part of them. -/
theorem set_tRowK : (tRowK L).view.set = tSet (wL L) := by
  show ((tV).view.slice (tRectK L)).set = (tRow (wL L)).set
  rw [View.set_slice, ← tRectK_eq L]; exact Finset.map_refl
/-- The row that a tile writes is its row of the partial sums. -/
theorem set_oRowK : (oRowK L).view.set = oSet (wL L) := by
  show (((oV).view.slice (oRectK L)).reshape S16 squeezes_S1x16_S16.numel_eq).set = (oRow (wL L)).set
  rw [View.set_reshape, View.set_slice, ← oRectK_eq L]; exact Finset.map_refl

/-- The ownership of that part, as the copy spells it. -/
theorem pts_tRowK (f : Buf (Elt F) (tLoc d)) :
    ((tRowK L).view.loc (V d (cV L) (jV L)) ↦[(tRowK L).view.set]{fullShare} f : sProp 𝕄) = tLoc d ↦[tSet (wL L)]{fullShare} f := by
  rw [set_tRowK]
/-- The ownership of that row, as the copy spells it. -/
theorem pts_oRowK (f : Buf (Elt F) (oLoc d)) :
    ((oRowK L).view.loc (V d (cV L) (jV L)) ↦[(oRowK L).view.set]{fullShare} f : sProp 𝕄) = oLoc d ↦[oSet (wL L)]{fullShare} f := by
  rw [set_oRowK]
/-- A share of the long row of logits, as the body spells it. -/
theorem pts_fV (q : PosShare TreeShare) (f : Buf (Elt F) (fLoc d)) :
    ((fV).view.loc (V d (cV L) (jV L)) ↦{q} f : sProp 𝕄) = fLoc d ↦{q} f := rfl
/-- The targets' buffer, as the body spells it. -/
theorem pts_gV (f : Buf (Elt F) ((V d (cV L) (jV L)).loc cc0_scratch0)) :
    ((gV).view.loc (V d (cV L) (jV L)) ↦{fullShare} f : sProp 𝕄) = (V d (cV L) (jV L)).loc cc0_scratch0 ↦{fullShare} f := rfl
/-- The positions' buffer, as the body spells it. -/
theorem pts_pV (f : Buf (Elt F) ((V d (cV L) (jV L)).loc cc0_scratch1)) :
    ((pV).view.loc (V d (cV L) (jV L)) ↦{fullShare} f : sProp 𝕄) = (V d (cV L) (jV L)).loc cc0_scratch1 ↦{fullShare} f := rfl
/-- The gathered logits' buffer, as the body spells it. -/
theorem pts_wV (f : Buf (Elt F) ((V d (cV L) (jV L)).loc cc0_scratch2)) :
    ((wV).view.loc (V d (cV L) (jV L)) ↦{fullShare} f : sProp 𝕄) = (V d (cV L) (jV L)).loc cc0_scratch2 ↦{fullShare} f := rfl
/-- The accumulator's buffer, as the body spells it. -/
theorem pts_aV (f : Buf (Elt F) ((V d (cV L) (jV L)).loc cc0_scratch3)) :
    ((aV).view.loc (V d (cV L) (jV L)) ↦{fullShare} f : sProp 𝕄) = (V d (cV L) (jV L)).loc cc0_scratch3 ↦{fullShare} f := rfl

/-- The task's three DMA semaphores: the target fetch's, the gather's, the write-out's. -/
abbrev cellA (d : Dev nD) (c : Fin τ.nSC) (i : Fin τ.nSub) : GSem nD τ sig := (V d c i, .dma cc0_scoped0.sem)
abbrev cellB (d : Dev nD) (c : Fin τ.nSC) (i : Fin τ.nSub) : GSem nD τ sig := (V d c i, .dma cc0_scratch4.sem)
abbrev cellC (d : Dev nD) (c : Fin τ.nSC) (i : Fin τ.nSub) : GSem nD τ sig := (V d c i, .dma cc0_scoped1.sem)

/-- The task's semaphores at zero: its three and the rest. -/
theorem ownSems0_V :
    (ownSems0 (V d (cV L) (jV L)) : sProp 𝕄)
      = iprop(semVal (cellA d (cV L) (jV L)) 0 ∗ semVal (cellB d (cV L) (jV L)) 0 ∗ semVal (cellC d (cV L) (jV L)) 0
          ∗ bigSep ((((ownCells (V d (cV L) (jV L))).erase (cellA d (cV L) (jV L))).erase (cellB d (cV L) (jV L))).erase (cellC d (cV L) (jV L))) fun g => semVal g 0) := by
  unfold SparseCore.Cfg.ownSems0
  rw [SparseCore.bigSep_erase' ((mem_ownCells (g := cellA d (cV L) (jV L))).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d (cV L) (jV L))).mpr ⟨rfl, by
      show (SemLoc.dma cc0_scratch4.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d (cV L) (jV L))).mpr ⟨rfl, by show (SemLoc.dma cc0_scoped1.sem : SemLoc sig).isScoped .scVector = true; decide⟩⟩⟩)]

/-- What is left of the tile's buffers beside its four scratch buffers. -/
abbrev restRefs (L : grid0.Coords) : Finset (DevRef τ sig) :=
  ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)

/-- Two different arrays lie at different places. -/
theorem devRef_ne {a b : Ref sig .scVector} (h : a ≠ b) :
    (Proc.scVector (cV L) (jV L)).devRef a ≠ (Proc.scVector (cV L) (jV L)).devRef b :=
  fun e => h (Proc.devRef_injective _ e)

/-- The tile's buffers: its four scratch buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (restRefs L) fun b => iprop(∃ f, ((d, b) : Loc nD τ sig) ↦{fullShare} f)) := by
  have own (r : Ref sig .scVector) (h : ((Proc.scVector (cV L) (jV L)).devRef r).owner = .proc (.scVector (cV L) (jV L))) :
      (Proc.scVector (cV L) (jV L)).devRef r ∈ ownRefs (τ := τ) (sig := sig) (.scVector (cV L) (jV L)) :=
    SparseCore.Cfg.mem_ownRefs_of_owner (p := Proc.scVector (cV L) (jV L)) h
  unfold SparseCore.Cfg.ownBufs
  refine (SparseCore.bigSep_erase' (own cc0_scratch0 rfl)).trans ?_
  rw [SparseCore.bigSep_erase' (Finset.mem_erase.mpr ⟨devRef_ne L (by decide), own cc0_scratch1 rfl⟩),
    SparseCore.bigSep_erase' (Finset.mem_erase.mpr ⟨devRef_ne L (by decide), Finset.mem_erase.mpr ⟨devRef_ne L (by decide), own cc0_scratch2 rfl⟩⟩),
    SparseCore.bigSep_erase' (Finset.mem_erase.mpr ⟨devRef_ne L (by decide), Finset.mem_erase.mpr ⟨devRef_ne L (by decide),
      Finset.mem_erase.mpr ⟨devRef_ne L (by decide), own cc0_scratch3 rfl⟩⟩⟩)]

/-! ## The words the task computes -/

/-- Row `w` of the targets. -/
def row (g : S1024.Idx → BitVec 32) (w : Fin 32) : S32.Idx → BitVec 32 := fun y =>
  g (ix1 ⟨32 * w.val + (y 0).val, by have : (y 0).val < 32 := (y 0).isLt; omega⟩)

/-- The flat places row `w` names, as words. -/
def places (g : S1024.Idx → BitVec 32) (w : Fin 32) : S32.Idx → BitVec 32 := fun y =>
  BitVec.ofNat 32 (100000 * (32 * w.val + (y 0).val) + (row g w y).toNat)

/-- The fetch lands the task's row of targets. -/
theorem fetched (g : S1024.Idx → BitVec 32) :
    (ReadAs.same (Val := Elt F)).apply ((tRowK L).view.read (Elt F) g) = row g (wL L) := by
  funext y
  show (tRowK L).view.read (Elt F) g y = _
  refine ((View.read_apply _ _).trans (cast_eq _ _)).trans (congrArg g ?_)
  funext a
  match a with
  | 0 =>
    refine Fin.ext ?_
    show (k0_off1 L) 0 + 1 * (y 0).val = _
    rw [k0_off1_eq]
    show 64 * (L 1).val + 32 * (L 0).val + 1 * (y 0).val = 32 * (2 * (L 1).val + (L 0).val) + (y 0).val
    omega

/-- A place formed in the lower half is the flat place of the row and its target. -/
theorem place_lower (v : Vec F S16 .i32) (x : S16.Idx) (hv : (v x).toNat < 100000) :
    k0_pay2 L v x = BitVec.ofNat 32 (100000 * (32 * (wL L).val + (x 0).val) + (v x).toNat) := by
  have h0 : (L 0).val < 2 := (L 0).isLt
  have h1 : (L 1).val < 16 := (L 1).isLt
  have hx : (x 0).val < 16 := (x 0).isLt
  have e : k0_pay2 L v x = (BitVec.ofNat 32 (0 * 16 + (x 0).val) + ((BitVec.ofNat 32 (L 1).val * 2#32 + BitVec.ofNat 32 (L 0).val) * 32#32 + 0#32)) * 100000#32 + v x := by
    unfold k0_pay2
    simp only [shapeCast_self]
    rfl
  rw [e]
  apply BitVec.eq_of_toNat_eq
  simp only [BitVec.toNat_add, BitVec.toNat_mul, BitVec.toNat_ofNat, rowOf, Fin.val_cast]
  omega

/-- A place formed in the upper half is the flat place of the row and its target. -/
theorem place_upper (v : Vec F S16 .i32) (x : S16.Idx) (hv : (v x).toNat < 100000) :
    k0_pay3 L v x = BitVec.ofNat 32 (100000 * (32 * (wL L).val + (16 + (x 0).val)) + (v x).toNat) := by
  have h0 : (L 0).val < 2 := (L 0).isLt
  have h1 : (L 1).val < 16 := (L 1).isLt
  have hx : (x 0).val < 16 := (x 0).isLt
  have e : k0_pay3 L v x = (BitVec.ofNat 32 (0 * 16 + (x 0).val) + ((BitVec.ofNat 32 (L 1).val * 2#32 + BitVec.ofNat 32 (L 0).val) * 32#32 + 16#32)) * 100000#32 + v x := by
    unfold k0_pay3
    simp only [shapeCast_self]
    rfl
  rw [e]
  apply BitVec.eq_of_toNat_eq
  simp only [BitVec.toNat_add, BitVec.toNat_mul, BitVec.toNat_ofNat, rowOf, Fin.val_cast]
  omega

/-- The list the gather reads holds the task's flat places. -/
theorem list_places (g : S1024.Idx → BitVec 32) (hg : ∀ j, (g j).toNat < 100000) (f₀ : (pV).view.ty.Contents (Elt F))
    (fg : (gV).view.ty.Contents (Elt F)) (log : List (View.Piece (Elt F) S32 .i32))
    (hlog : log = [⟨Rect.unit (s := S32) ![16] S16.size inb_S32_S16_16,
        k0_pay3 L (View.readAt (Elt F) (gV).view (Rect.unit (s := S32) ![16] S16.size inb_S32_S16_16).toLoadRect (View.write (Elt F) (gV).view fg (row g (wL L)) Finset.univ))⟩,
      ⟨Rect.unit (s := S32) ![0] S16.size inb_S32_S16_0,
        k0_pay2 L (View.readAt (Elt F) (gV).view (Rect.unit (s := S32) ![0] S16.size inb_S32_S16_0).toLoadRect (View.write (Elt F) (gV).view fg (row g (wL L)) Finset.univ))⟩]) :
    (pV).view.read (Elt F) ((pV).view.writes (Elt F) f₀ log) = places g (wL L) := by
  rw [View.write_whole_univ] at hlog
  subst hlog
  funext y
  apply View.read_writes_apply_of_pieces
  · intro p hp x
    rcases List.mem_cons.mp hp with rfl | hp
    · have e : (((Rect.unit (s := S32) ![16] S16.size inb_S32_S16_16).emb x) 0).val = 16 + (x 0).val := by
        show 16 + 1 * (x 0).val = _; omega
      refine (place_upper L _ x (hg _)).trans ?_
      unfold places
      rw [e]; rfl
    · obtain rfl := List.mem_singleton.mp hp
      have e : (((Rect.unit (s := S32) ![0] S16.size inb_S32_S16_0).emb x) 0).val = (x 0).val := by
        show 0 + 1 * (x 0).val = _; omega
      refine (place_lower L _ x (hg _)).trans ?_
      unfold places
      rw [e]; rfl
  · have hy : (y 0).val < 32 := (y 0).isLt
    by_cases h : (y 0).val < 16
    · refine ⟨_, List.mem_cons_of_mem _ (List.mem_singleton_self _), (Rect.mem_set_unit (s := S32) (inb := inb_S32_S16_0)).mpr fun a => ?_⟩
      match a with
      | 0 => exact ⟨Nat.zero_le _, by show (y 0).val < 0 + 16; omega⟩
    · refine ⟨_, List.mem_cons_self, (Rect.mem_set_unit (s := S32) (inb := inb_S32_S16_16)).mpr fun a => ?_⟩
      match a with
      | 0 => exact ⟨by show 16 ≤ (y 0).val; omega, by show (y 0).val < 16 + 16; omega⟩

/-- Every place of the list is a place of the flat array. -/
theorem places_lt (g : S1024.Idx → BitVec 32) (hg : ∀ j, (g j).toNat < 100000) (w : Fin 32) (y : S32.Idx) :
    (places g w y).toNat < 102400000 := by
  have := hg (ix1 ⟨32 * w.val + (y 0).val, by have : (y 0).val < 32 := (y 0).isLt; omega⟩)
  have hy : (y 0).val < 32 := (y 0).isLt
  have hw := w.isLt
  unfold places row
  rw [BitVec.toNat_ofNat]
  refine Nat.lt_of_le_of_lt (Nat.mod_le _ _) ?_
  omega

/-- The word the flat array holds at a place of the list is the picked word. -/
theorem word_at (xf : S102400000.Idx → F .f32) (g : S1024.Idx → BitVec 32) (hg : ∀ j, (g j).toNat < 100000) (w : Fin 32) (y : S32.Idx)
    (h : (places g w y).toNat < 102400000) :
    xf (ix1 ⟨(places g w y).toNat, h⟩)
      = pick xf g ⟨32 * w.val + (y 0).val, by have : (y 0).val < 32 := (y 0).isLt; omega⟩ := by
  have hr := hg (ix1 ⟨32 * w.val + (y 0).val, by have : (y 0).val < 32 := (y 0).isLt; omega⟩)
  have hy : (y 0).val < 32 := (y 0).isLt
  have hw := w.isLt
  unfold pick flatIx
  refine congrArg (fun k => xf (ix1 k)) (Fin.ext ?_)
  show (places g w y).toNat = _
  unfold places row
  rw [BitVec.toNat_ofNat]
  generalize (g (ix1 ⟨32 * w.val + (y 0).val, _⟩)).toNat = t at hr ⊢
  show (100000 * (32 * w.val + (y 0).val) + t) % 2 ^ 32 = (100000 * (32 * w.val + (y 0).val) + t) % 102400000
  have hlt : 100000 * (32 * w.val + (y 0).val) + t < 102400000 := by omega
  rw [Nat.mod_eq_of_lt hlt, Nat.mod_eq_of_lt (Nat.lt_trans hlt (by norm_num))]

/-- The gather's payload: entry `y` is the picked word of row `32 w + y`. -/
theorem gathered (xf : S102400000.Idx → F .f32) (g : S1024.Idx → BitVec 32) (hg : ∀ j, (g j).toNat < 100000) (w : Fin 32)
    (l : S32.Idx → BitVec 32) (hl : l = places g w) (hn : S32.numel = S32.size gathers_S102400000_S32.axis')
    (hin : ∀ x, (l x).toNat < S102400000.size gathers_S102400000_S32.axis) (y : S32.Idx) :
    SparseCore.gatherPayload (F := F) (e := .f32) gathers_S102400000_S32 ((fAllK).view.read (Elt F) xf)
        (SparseCore.rows (F := F) l hn hin) y
      = pick xf g ⟨32 * w.val + (y 0).val, by have : (y 0).val < 32 := (y 0).isLt; omega⟩ := by
  subst hl
  refine Eq.trans ?_ (word_at xf g hg w y (places_lt g hg w y))
  unfold SparseCore.gatherPayload
  refine ((View.read_apply _ _).trans (cast_eq _ _)).trans (congrArg xf ?_)
  funext a
  match a with
  | 0 =>
    refine Fin.ext ?_
    have e : S32.rowMajor.symm ((y gathers_S102400000_S32.axis').cast hn.symm) = y :=
      (S32.rowMajor.symm_apply_eq).2 (Fin.ext (by rw [Shape.rowMajor_val_one]; rfl))
    show 0 + 1 * (Shape.Gathers.idx gathers_S102400000_S32 _ y 0).val = _
    rw [show (0 : Fin S102400000.rank) = gathers_S102400000_S32.axis from rfl, Shape.Gathers.idx_axis]
    show 0 + 1 * (places g w (S32.rowMajor.symm ((y gathers_S102400000_S32.axis').cast hn.symm))).toNat = (places g w y).toNat
    rw [e]; omega

/-- Where lane `y` of the task's row of sums lies. -/
theorem lane_place (y : S16.Idx) : (oRowK L).view.emb y = ix2 (wL L) (y 0) := by
  funext a
  have e : Shape.reshapeEquiv squeezes_S1x16_S16.numel_eq y = Fin.cons ⟨0, Nat.one_pos⟩ y := Shape.reshapeEquiv_cons_one _ y
  show (oRectK L).emb (Shape.reshapeEquiv squeezes_S1x16_S16.numel_eq y) a = _
  rw [e]
  match a with
  | 0 =>
    refine Fin.ext ?_
    show (k0_off2 L) 0 + 1 * 0 = 2 * (L 1).val + (L 0).val
    rw [k0_off2_eq]
    rfl
  | 1 =>
    refine Fin.ext ?_
    show (k0_off2 L) 1 + 1 * (y 0).val = (y 0).val
    rw [k0_off2_eq]
    show 0 + 1 * (y 0).val = _
    omega

/-- The row of sums the task writes out. -/
theorem row_sums (xf : S102400000.Idx → F .f32) (g : S1024.Idx → BitVec 32) (hg : ∀ j, (g j).toNat < 100000)
    (fw : (wV).view.ty.Contents (Elt F)) (fa : (aV).view.ty.Contents (Elt F)) (pl : S32.Idx → F .f32)
    (hpl : ∀ y, pl y = pick xf g ⟨32 * (wL L).val + (y 0).val, by have : (y 0).val < 32 := (y 0).isLt; omega⟩) (y : S16.Idx) :
    (aV).view.read (Elt F) ((aV).view.writes (Elt F) fa
      [⟨Rect.unit (s := S16) ![0] S16.size inb_S16_S16_0,
        k0_pay1 (k0_pay4 (View.readAt (Elt F) (wV).view (Rect.unit (s := S32) ![0] S16.size inb_S32_S16_0).toLoadRect (View.write (Elt F) (wV).view fw pl Finset.univ)))
          (View.readAt (Elt F) (wV).view (Rect.unit (s := S32) ![16] S16.size inb_S32_S16_16).toLoadRect (View.write (Elt F) (wV).view fw pl Finset.univ))⟩]) y
      = sums xf g (ix2 (wL L) (y 0)) := by
  rw [View.write_whole_univ]
  refine View.read_writes_apply_of_pieces (Val := Elt F) (e := .f32) (aV).view fa (fun y : S16.Idx => sums xf g (ix2 (wL L) (y 0))) _ ?_ y ?_
  · intro p hp x
    obtain rfl := List.mem_singleton.mp hp
    have hx : (x 0).val < 16 := (x 0).isLt
    have e1 : pl ((Rect.unit (s := S32) ![0] S16.size inb_S32_S16_0).emb x)
        = pick xf g ⟨32 * (wL L).val + (x 0).val, by omega⟩ := by
      rw [hpl]; refine congrArg (pick xf g) (Fin.ext ?_)
      show 32 * (wL L).val + (0 + 1 * (x 0).val) = 32 * (wL L).val + (x 0).val; omega
    have e2 : pl ((Rect.unit (s := S32) ![16] S16.size inb_S32_S16_16).emb x)
        = pick xf g ⟨32 * (wL L).val + 16 + (x 0).val, by omega⟩ := by
      rw [hpl]; refine congrArg (pick xf g) (Fin.ext ?_)
      show 32 * (wL L).val + (16 + 1 * (x 0).val) = 32 * (wL L).val + 16 + (x 0).val; omega
    have e3 : ((Rect.unit (s := S16) ![0] S16.size inb_S16_S16_0).emb x) 0 = x 0 := Fin.ext (by
      show 0 + 1 * (x 0).val = _; omega)
    unfold k0_pay1 k0_pay4
    simp only [shapeCast_self]
    show FloatOps.addf (FloatOps.addf (Scalar.ofBits .f32 0x00000000#32) (pl ((Rect.unit (s := S32) ![0] S16.size inb_S32_S16_0).emb x)))
      (pl ((Rect.unit (s := S32) ![16] S16.size inb_S32_S16_16).emb x)) = _
    rw [e1, e2, e3]
    rfl
  · refine ⟨_, List.mem_singleton_self _, (Rect.mem_set_unit (s := S16) (inb := inb_S16_S16_0)).mpr fun a => ?_⟩
    match a with
    | 0 => exact ⟨Nat.zero_le _, by have : (y 0).val < 16 := (y 0).isLt; show (y 0).val < 0 + 16; omega⟩

/-- What the write-out leaves in the row of sums. -/
theorem sums_written (f : Buf (Elt F) (oLoc d)) (v : S32x16.Idx → F .f32) (w : S16.Idx → F .f32) (h : ∀ y, w y = v (ix2 (wL L) (y 0))) :
    ((oRowK L).view.loc (V d (cV L) (jV L)) ↦[(oRowK L).view.set]{fullShare} (oRowK L).view.writes (Elt F) f [⟨Rect.whole S16, w⟩] : sProp 𝕄)
      = oLoc d ↦[oSet (wL L)]{fullShare} v := by
  refine Eq.trans (pointsTo_congr fun i hi => ?_) (pts_oRowK (F := F) d L v)
  obtain ⟨y, -, rfl⟩ := Finset.mem_map.mp hi
  have e := congrFun (View.read_writes_whole (Val := Elt F) (oRowK L).view f w) y
  rw [View.read_apply, cast_eq, h] at e
  exact e.trans (congrArg v (lane_place L y).symm)

/-- One tile's task: from its row of targets, its share of the flat array and its row of the results at any contents, it
    ends with the same targets and share and its row of the results at the sums. -/
theorem tile_body (hF : (K (F := F)).Facts) (hin : InRange tg) (O : CellTallies nD τ sig (HIx 1)) (W : Waits sig (HIx 1)) (hO : ∀ g, O g none = 0) :
    iprop(levAts (K (F := F)).L (K (F := F)).lev ∗ emp
        ∗ tilePts tg xf d (wL L) (o₀ d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L fV (Memref.isWhole_whole _) tV (Memref.isWhole_whole _) oV (Memref.isWhole_whole _)
            gV (Memref.isWhole_whole _) pV (Memref.isWhole_whole _) wV (Memref.isWhole_whole _) aV (Memref.isWhole_whole _)
            cc0_scratch4 cc0_scoped0 cc0_scoped1)
          fun _ => iprop(tilePts tg xf d (wL L) (sums (xf d) (tg d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_kernel_eq_skeleton, k0_part1_eq_skeleton]; unfold cc0_sc_kernel_skel; simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Ht, Hf, Ho⟩, ⟨⟨%fg, Hg⟩, ⟨%fp, Hp⟩, ⟨%fw, Hw⟩, ⟨%fa, Ha⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tRowK (F := F) d L _).symm) $$ Ht
  ihave Ho' := (Entails.of_eq (pts_oRowK (F := F) d L _).symm) $$ Ho
  ihave Hf' := (Entails.of_eq (pts_fV (F := F) d L _ _).symm) $$ Hf
  ihave Hg' := (Entails.of_eq (pts_gV (F := F) d L _).symm) $$ Hg
  ihave Hp' := (Entails.of_eq (pts_pV (F := F) d L _).symm) $$ Hp
  ihave Hw' := (Entails.of_eq (pts_wV (F := F) d L _).symm) $$ Hw
  ihave Ha' := (Entails.of_eq (pts_aV (F := F) d L _).symm) $$ Ha
  sl_exec
  have hwS : (wV).view.set = Finset.univ := View.set_whole _
  have hpS : (pV).view.set = Finset.univ := View.set_whole _
  ihave Hfs := (pointsTo_split_subset (q := fShare (wL L)) (f := xf d) (S := Finset.univ) (Finset.subset_univ (fAllK).view.set)).1 $$ Hf'
  icases Hfs with ⟨Hfs, Hfr⟩
  ihave Hw1 := (Entails.of_eq (show ((wV).view.loc (V d (cV L) (jV L)) ↦{fullShare} fw : sProp 𝕄)
      = (wV).view.loc (V d (cV L) (jV L)) ↦[(wV).view.set]{fullShare} fw by rw [hwS])) $$ Hw'
  ihave Hp1 := (Entails.of_eq (show ((pV).view.loc (V d (cV L) (jV L)) ↦{fullShare} (pV).view.writes (Elt F) (pV).view.junk (tile_body.sl.Hp'_2 tg d L fg) : sProp 𝕄)
      = (pV).view.loc (V d (cV L) (jV L)) ↦[(pV).view.set]{fullShare} (pV).view.writes (Elt F) (pV).view.junk (tile_body.sl.Hp'_2 tg d L fg) by rw [hpS])) $$ Hp'
  have hlist := list_places (F := F) L (tg d) (hin d) (pV).view.junk fg (tile_body.sl.Hp'_2 tg d L fg) (by rw [← fetched (F := F) L (tg d)]; rfl)
  have hin' : ∀ x, ((pV).view.read (Elt F) ((pV).view.writes (Elt F) (pV).view.junk (tile_body.sl.Hp'_2 tg d L fg)) x).toNat < S102400000.size gathers_S102400000_S32.axis := by
    rw [hlist]; intro x; exact places_lt (tg d) (hin d) _ x
  have hN : ∀ h : S102400000.Gathers 0 S32, ∑ j, ((wV).slice (S32.rowRect h.axis' j) (S32.stride_rowRect h.axis' j)).view.dmaCredit
      = (wV).view.dmaCredit := by decide
  iapply (SparseCore.wp_indirectGatherLocal countersEmb 𝒱₀ (V d (cV L) (jV L)) none (hg := gathers_S102400000_S32) (default : HIx 1)
      (wV).view.dmaCredit (hN _) (by decide) hin') $$ [Hfs Hw1 Hp1 HsemB]
  · isplitl [Hfs]; · iexact Hfs
    isplitl [Hw1]; · iexact Hw1
    isplitl [Hp1]; · iexact Hp1
    iexact HsemB
  iintro Hfl
  sl_exec
  iapply (Transfers.wp_waitLocalO countersEmb 𝒱₀ (V d (cV L) (jV L)) none (default : HIx 1) (rfl : (wV).view.dmaCredit = _)) $$ [Hfl HO]
  · isplitl [Hfl]; · iexact Hfl
    isplitl [HO]; · iexact HO
    iapply (Transfers.MayWaits.elim (SemLoc.dma cc0_scratch4.sem)) $$ Hmw
  iintro ⟨⟨Hw2, Hfs, Hp2⟩, HsemB, HO⟩
  ihave Hf2 := (pointsTo_split_subset (q := fShare (wL L)) (f := xf d) (S := Finset.univ) (Finset.subset_univ (fAllK).view.set)).2 $$ [Hfs Hfr]; · isplitl [Hfs] <;> iassumption
  ihave Hw3 := (Entails.of_eq (show ((wV).view.loc (V d (cV L) (jV L)) ↦[(wV).view.set]{fullShare} _ : sProp 𝕄)
      = (wV).view.loc (V d (cV L) (jV L)) ↦{fullShare} _ by rw [hwS])) $$ Hw2
  ihave Hp3 := (Entails.of_eq (show ((pV).view.loc (V d (cV L) (jV L)) ↦[(pV).view.set]{fullShare} _ : sProp 𝕄)
      = (pV).view.loc (V d (cV L) (jV L)) ↦{fullShare} _ by rw [hpS])) $$ Hp2
  sl_exec
  sl_step
  have hpl : ∀ y, SparseCore.gatherPayload (F := F) (e := .f32) gathers_S102400000_S32 ((fAllK).view.read (Elt F) (xf d))
      (SparseCore.rows (F := F) ((pV).view.read (Elt F) ((pV).view.writes (Elt F) (pV).view.junk (tile_body.sl.Hp'_2 tg d L fg))) k0_part1_skel._proof_13 hin') y
      = pick (xf d) (tg d) ⟨32 * (wL L).val + (y 0).val, by have : (y 0).val < 32 := (y 0).isLt; have := (wL L).isLt; omega⟩ :=
    gathered (xf d) (tg d) (hin d) (wL L) _ hlist _ hin'
  isplitl [Ht' Hf2 Ho']
  · isplitl [Ht']
    · iapply (Entails.of_eq (pts_tRowK (F := F) d L _)) $$ Ht'
    isplitl [Hf2]; · iexact Hf2
    iapply (Entails.of_eq (sums_written (F := F) d L (o₀ d) (sums (xf d) (tg d)) (tile_body.sl.dma4 tg xf d L fg fw fa hin') (row_sums L (xf d) (tg d) (hin d) fw fa _ hpl))) $$ Ho'
  isplitl [Hg' Hp3 Hw3 Ha' Hbufs]
  · isplitl [Hg']; · iexists _; iexact Hg'
    isplitl [Hp3]; · iexists _; iexact Hp3
    isplitl [Hw3]; · iexists _; iexact Hw3
    isplitl [Ha']; · iexists _; iexact Ha'
    iexact Hbufs
  isplitl [HsemA HsemB HsemC Hsems]
  · isplitl [HsemA]; · iexact HsemA
    isplitl [HsemB]; · iexact HsemB
    isplitl [HsemC]; · iexact HsemC
    iexact Hsems
  iexists _; isplitr; swap
  · iexact HO
  ipureintro; intro p hp
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  exact .inl hp

end Tile

end Cert.Proof

end
-- ==== Proof.Task.lean ====
/-
  The task as the launch asks for it: one tile's body, in the launch's own words.
-/
module

public import proofs.«01_k».proof.Proof.Tile

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The grid coordinates of tile `s` of SparseCore `c`. -/
def tileCoords (c : Fin (grid0.bound 0)) (s : Fin (grid0.bound 1)) : grid0.Coords :=
  fun | 0 => c | 1 => s | ⟨_ + 2, h⟩ => absurd h (Nat.not_lt.2 (Nat.le_add_left _ _))

/-- The body table's entry at a tile is the kernel's body at the tile's coordinates. -/
theorem entry_tile (c : Fin τ.nSC) (s : Fin τ.nSub) :
    defs₀ (F := F) (.scVector c s) 0 ()
      = SparseCore.onTile hcore0 hsub0 (fun c s => cc0_sc_kernel (tileCoords c s)
          (Memref.whole main_v0_scv) (Memref.isWhole_whole _) (Memref.whole main_arg1_scv) (Memref.isWhole_whole _)
          (Memref.whole main_v1_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scoped0 cc0_scoped1) ⟨⟩ c s := rfl

omit [FloatOps F] [Named F] in
/-- Waits recorded with no round named are waits the launch allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task does what the launch's record of payments asks, when every target is a class. -/
theorem tileObl (tg : (d : Dev nD) → Buf (Elt F) (tLoc d)) (xf : (d : Dev nD) → Buf (Elt F) (fLoc d)) (o₀ : (d : Dev nD) → Buf (Elt F) (oLoc d))
    (hin : InRange tg) : (K (F := F)).TileObl (D (F := F)) 𝒱 (P tg xf o₀) v₀ 0 := by
  intro d c i O W hO _ _
  simp only [show (P tg xf o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [entry_tile]; simp only [SparseCore.onTile, hci, and_self, ↓reduceDIte]
  exact (tile_body tg xf o₀ d (tileCoords ⟨_, hci.1⟩ ⟨_, hci.2⟩) facts hin O W hO).trans (wp_mono frame _ _ fun _ => waits_weaken)

end Cert.Proof

end
-- ==== Proof.Body.lean ====
/-
  The TensorCore body, run once per case of its two conditionals: at the first point it clears the running sum before
  adding the block, at the last it turns the finished sum into the loss, in between it only adds.
-/
module

public import proofs.«01_k».proof.Proof.Setup
public import Idealize.ShloMosaic.Lib.Pipeline.Value
public import Idealize.ShloMosaic.Lib.Writes

@[expose] public section

noncomputable section

namespace Cert.Proof

open Cert.KernelIdeal Cert.KernelIdeal.Gen

open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- A memref's buffer on core `c`. -/
abbrev Bf (c : Dev nD) {sp : Space} {S : Shape} {e : EltTy} (M : Memref sig .tc sp S e) : Type := Buf (Elt F) (M.view.loc (c : Thread nD τ))
/-- That buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- The first conditional's word: whether the point is the first. -/
abbrev isFirst (i : grid1.Coords) : BitVec 1 := Scalar.cmpi .ne (Scalar.extui (Scalar.cmpi .eq (BitVec.ofNat 32 (i 0).val) 0#32)) 0#32
/-- The second conditional's word: whether the point is the last. -/
abbrev isLast (i : grid1.Coords) : BitVec 1 := Scalar.cmpi .ne (Scalar.extui (Scalar.cmpi .eq (BitVec.ofNat 32 (i 0).val) 124#32)) 0#32

/-- The running sum's one cell, after any log of stores whose latest is the constant `v` on it, reads `v`. -/
theorem cell_read (M : Memref sig .tc .smem S1x1 .f32) (f : M.view.ty.Contents (Elt F)) (v : F .f32) (log : List (View.Piece (Elt F) S1x1 .f32)) :
    M.view.read (Elt F) (M.view.writes (Elt F) f (⟨Rect.unit (s := S1x1) ![0, 0] S1x1.size inb_S1x1_S1x1_0_0, fun _ => v⟩ :: log)) = fun _ => v := by
  funext y
  have e : (Rect.unit (s := S1x1) ![0, 0] S1x1.size inb_S1x1_S1x1_0_0).emb y = y := by
    funext a
    match a with
    | 0 => exact Fin.ext (by show 0 + 1 * (y 0).val = _; omega)
    | 1 => exact Fin.ext (by show 0 + 1 * (y 1).val = _; omega)
  have h := View.read_writes_cons_emb M.view f (Rect.unit (s := S1x1) ![0, 0] S1x1.size inb_S1x1_S1x1_0_0) (fun _ => v) log y
  rwa [e] at h

/-- The offsets of a load of a whole block are zero. -/
theorem zeros2 : (![0, 0] : Fin 2 → Nat) = fun _ => 0 := funext fun a => by fin_cases a <;> rfl

/-- The one cell's index. -/
theorem cell_ix (y : S1x1.Idx) : y = ix2 0 0 := by
  funext a
  match a with
  | 0 => exact Fin.ext (by have : (y 0).val < 1 := (y 0).isLt; show (y 0).val = 0; omega)
  | 1 => exact Fin.ext (by have : (y 1).val < 1 := (y 1).isLt; show (y 1).val = 0; omega)

/-- A load of the running sum's cell reads the cell. -/
theorem cell_load (M : Memref sig .tc .smem S1x1 .f32) (f : M.view.ty.Contents (Elt F)) (y : S1x1.Idx) :
    View.readAt (Elt F) M.view (Rect.unit (s := S1x1) ![0, 0] S1x1.size inb_S1x1_S1x1_0_0).toLoadRect f y = M.view.read (Elt F) f (ix2 0 0) := by
  rw [View.readAt_eq_ld, View.ld_unit_zero (S := S1x1) zeros2]
  exact congrArg _ (cell_ix y)

/-- A load of a whole logits block reads the block. -/
theorem block_load (M : Memref sig .tc .vmem S200x4096 .f32) (f : M.view.ty.Contents (Elt F)) :
    View.readAt (Elt F) M.view (Rect.unit (s := S200x4096) ![0, 0] S200x4096.size inb_S200x4096_S200x4096_0_0).toLoadRect f = M.view.read (Elt F) f := by
  rw [View.readAt_eq_ld, View.ld_unit_zero (S := S200x4096) zeros2]

/-- A load of the whole array of tile sums reads the array. -/
theorem tiles_load (M : Memref sig .tc .vmem S32x16 .f32) (f : M.view.ty.Contents (Elt F)) :
    View.readAt (Elt F) M.view (Rect.unit (s := S32x16) ![0, 0] S32x16.size inb_S32x16_S32x16_0_0).toLoadRect f = M.view.read (Elt F) f := by
  rw [View.readAt_eq_ld, View.ld_unit_zero (S := S32x16) zeros2]

section Cases

variable (c : Dev nD) (i : grid1.Coords) (M0 : Memref sig .tc .vmem S200x4096 .f32) (h0 : M0.IsWhole)
  (M1 : Memref sig .tc .vmem S32x16 .f32) (h1 : M1.IsWhole) (M2 : Memref sig .tc .smem S1x1 .f32) (h2 : M2.IsWhole)
  (f0 : Bf (F := F) c M0) (f1 : Bf (F := F) c M1) (f2 : Bf (F := F) c M2)

/-- At a point that is neither first nor last the body adds the block's sum to the running sum. -/
theorem body_mid (hc1 : ¬ isFirst i = 1#1) (hc2 : ¬ isLast i = 1#1) (E : Set ℕ) (Q : PUnit → sProp 𝕄) :
    iprop(pt c M0 f0 ∗ pt c M1 f1 ∗ pt c M2 f2
        ∗ (iprop(pt c M0 f0 ∗ pt c M1 f1 ∗ ∃ f2', ⌜M2.view.read (Elt F) f2' = fun _ => k1_pay1 (M2.view.read (Elt F) f2 (ix2 0 0)) (M0.view.read (Elt F) f0)⌝ ∗ pt c M2 f2')
          -∗ Q ⟨⟩))
      ⊢ wp frame (wpE (defs₀ (F := F)) Variants.none (c : Thread nD τ) none) E (cc1_tc_body i M0 h0 M1 h1 M2 h2) Q := by
  rw [cc1_tc_body_eq_skeleton]; unfold cc1_tc_body_skel
  iintro ⟨H0, H1, H2, Hk⟩
  sl_exec
  sl_step
  sl_unfold_words
  iapply Hk
  isplitl [H0]; · iexact H0
  isplitl [H1]; · iexact H1
  iexists _; isplitr; swap
  · iexact H2
  ipureintro
  rw [cell_read]
  funext _
  exact congrArg₂ k1_pay1 (cell_load M2 f2 _) (block_load M0 f0)

/-- At the first point the body clears the running sum and adds the block's sum to it. -/
theorem body_first (hc1 : isFirst i = 1#1) (hc2 : ¬ isLast i = 1#1) (E : Set ℕ) (Q : PUnit → sProp 𝕄) :
    iprop(pt c M0 f0 ∗ pt c M1 f1 ∗ pt c M2 f2
        ∗ (iprop(pt c M0 f0 ∗ pt c M1 f1 ∗ ∃ f2', ⌜M2.view.read (Elt F) f2' = fun _ => k1_pay1 (FloatOps.ofBits .f32 0x00000000#32) (M0.view.read (Elt F) f0)⌝ ∗ pt c M2 f2')
          -∗ Q ⟨⟩))
      ⊢ wp frame (wpE (defs₀ (F := F)) Variants.none (c : Thread nD τ) none) E (cc1_tc_body i M0 h0 M1 h1 M2 h2) Q := by
  rw [cc1_tc_body_eq_skeleton]; unfold cc1_tc_body_skel
  iintro ⟨H0, H1, H2, Hk⟩
  sl_exec
  sl_step
  sl_unfold_words
  iapply Hk
  isplitl [H0]; · iexact H0
  isplitl [H1]; · iexact H1
  iexists _; isplitr; swap
  · iexact H2
  ipureintro
  rw [cell_read]
  funext _
  exact congrArg (k1_pay1 _) (block_load M0 f0)

/-- At the last point the body adds the block's sum and turns the finished sum into the loss. -/
theorem body_last (hc1 : ¬ isFirst i = 1#1) (hc2 : isLast i = 1#1) (E : Set ℕ) (Q : PUnit → sProp 𝕄) :
    iprop(pt c M0 f0 ∗ pt c M1 f1 ∗ pt c M2 f2
        ∗ (iprop(pt c M0 f0 ∗ pt c M1 f1 ∗ ∃ f2', ⌜M2.view.read (Elt F) f2' = fun _ => k1_pay2 (k1_pay1 (M2.view.read (Elt F) f2 (ix2 0 0)) (M0.view.read (Elt F) f0)) (M1.view.read (Elt F) f1)⌝ ∗ pt c M2 f2')
          -∗ Q ⟨⟩))
      ⊢ wp frame (wpE (defs₀ (F := F)) Variants.none (c : Thread nD τ) none) E (cc1_tc_body i M0 h0 M1 h1 M2 h2) Q := by
  rw [cc1_tc_body_eq_skeleton]; unfold cc1_tc_body_skel
  iintro ⟨H0, H1, H2, Hk⟩
  sl_exec
  sl_step
  sl_unfold_words
  iapply Hk
  isplitl [H0]; · iexact H0
  isplitl [H1]; · iexact H1
  iexists _; isplitr; swap
  · iexact H2
  ipureintro
  rw [cell_read]
  funext _
  exact congrArg₂ k1_pay2 (congrArg₂ k1_pay1 (cell_load M2 f2 _) (block_load M0 f0)) (tiles_load M1 f1)

end Cases

end Cert.Proof

end
-- ==== Proof.Region.lean ====
/-
  The TensorCore call: a grid of 125 points over the blocks of 200 rows, whose running sum and last point's loss are the
  proof data of its one pipeline.
-/
module

public import proofs.«01_k».proof.Proof.Body
public import Idealize.ShloMosaic.Lib.Pipeline.RegionArrays
public import Idealize.ShloMosaic.Lib.Pipeline.FrameBody

@[expose] public section

noncomputable section

namespace Cert.Proof

open Cert.KernelIdeal Cert.KernelIdeal.Gen

open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-! ## The values -/

/-- Block `n` of the logits read as 25000 rows of 4096: rows `200 n` to `200 n + 199`. -/
def blk (xb : S25000x4096.Idx → F .f32) (n : ℕ) : Vec F S200x4096 .f32 := fun j =>
  xb (ix2 ⟨(200 * n + (j 0).val) % 25000, Nat.mod_lt _ (by norm_num)⟩ ⟨(j 1).val, idx2_lt1 j⟩)

/-- The running sum after the first `n` blocks. -/
def accum (xb : S25000x4096.Idx → F .f32) : ℕ → F .f32
  | 0 => FloatOps.ofBits .f32 0x00000000#32
  | n + 1 => k1_pay1 (accum xb n) (blk xb n)

/-- The loss: the finished running sum and the tiles' sums, combined. -/
def loss (xb : S25000x4096.Idx → F .f32) (so : S32x16.Idx → F .f32) : F .f32 := k1_pay2 (accum xb 125) so

/-! ## The proof data -/

variable (xb : (c : Dev nD) → Buf (Elt F) (bLoc c)) (so : (c : Dev nD) → Buf (Elt F) (oLoc c)) (s0 : (c : Dev nD) → Buf (Elt F) (sLoc c))

/-- The arrays' entry contents; the logits' buffer keeps its block, the sums' buffer keeps the sums, the result's cell
    holds the running sum until the last point leaves the loss in it. -/
def dat (c : Dev nD) : Dat τ (Elt F) (HIx 1) ℕ UU ℕ cfg1 c where
  A w := match w with
    | ⟨0, _⟩ => xb c
    | ⟨1, _⟩ => so c
    | ⟨2, _⟩ => s0 c
  after w t := match w with
    | ⟨0, _⟩ => ((cfg1.win 0).blk t).view.read (Elt F) (xb c)
    | ⟨1, _⟩ => ((cfg1.win 1).blk t).view.read (Elt F) (so c)
    | ⟨2, _⟩ => fun _ => if t.val = 124 then loss (xb c) (so c) else accum (xb c) (t.val + 1)
  Φ _ := BI.emp
  q _ := fullShare
  owed _ := 0

/-- The program's one pipeline's data. -/
def pdats (adm : (p : Fin 1) → (pcfgs (F := F) p).Adm) : (p : Fin 1) → (c : Dev nD) → Dat τ (Elt F) (HIx 1) ℕ UU ℕ (Pipeline.pin (pcfgs (F := F)) adm p) c
  | ⟨0, _⟩ => fun c => dat xb so s0 c

/-! ## What the body finds -/

/-- There are 125 points. -/
theorem point_lt (t : Fin cfg1.N) : t.val < 125 := lt_of_lt_of_eq t.isLt N_1

/-- The point's coordinate is the point. -/
theorem coord_val (t : Fin cfg1.N) : (grid1.coords t 0).val = t.val := by
  have h : t.val < 125 := point_lt t
  rw [Pipeline.Grid.coords_val (G := grid1) t 0 (S := 1) (B := 125) (by decide) (by decide)]
  rw [Nat.div_one, Nat.mod_eq_of_lt h]

/-- Step `t` reads the `t`-th block of rows. -/
theorem index_0 (t : Fin cfg1.N) : win1_0.index t 0 = t.val := by
  have h : t.val < 125 := point_lt t
  show (BitVec.ofNat 32 (grid1.coords t 0).val).toNat = _
  rw [coord_val, BitVec.toNat_ofNat, Nat.mod_eq_of_lt (by omega)]

/-- Every block spans all columns. -/
theorem index_1 (t : Fin cfg1.N) : win1_0.index t 1 = 0 := rfl

/-- The logits' block at a point. -/
theorem block_0 (c : Dev nD) (t : Fin cfg1.N) : ((cfg1.win 0).blk t).view.read (Elt F) (xb c) = blk (xb c) t.val := by
  have h : t.val < 125 := point_lt t
  funext j
  have e0 := Window.rect_emb_val win1_0 t j 0
  have e1 := Window.rect_emb_val win1_0 t j 1
  rw [index_0] at e0
  rw [index_1] at e1
  have h0 : (j 0).val < 200 := (j 0).isLt
  show xb c ((win1_0.rect t).emb j) = _
  unfold blk
  refine congrArg (xb c) ?_
  funext a
  match a with
  | ⟨0, _⟩ =>
    refine Fin.ext (e0.trans ?_)
    show t.val * 200 + (j 0).val = (200 * t.val + (j 0).val) % 25000
    rw [Nat.mod_eq_of_lt (by omega)]; omega
  | ⟨1, _⟩ =>
    refine Fin.ext (e1.trans ?_)
    show 0 * 4096 + (j 1).val = (j 1).val
    omega

/-- The sums' block is the whole array of sums. -/
theorem block_1 (c : Dev nD) (t : Fin cfg1.N) : ((cfg1.win 1).blk t).view.read (Elt F) (so c) = so c := by
  funext j
  have e0 := Window.rect_emb_val win1_1 t j 0
  have e1 := Window.rect_emb_val win1_1 t j 1
  show so c ((win1_1.rect t).emb j) = _
  refine congrArg (so c) ?_
  funext a
  match a with
  | ⟨0, _⟩ => exact Fin.ext (e0.trans (show 0 * 32 + (j 0).val = (j 0).val by omega))
  | ⟨1, _⟩ => exact Fin.ext (e1.trans (show 0 * 16 + (j 1).val = (j 1).val by omega))

/-- What the first operand's window holds at each step: its own block. -/
theorem before_0 (c : Dev nD) (t : Fin cfg1.N) (d : (cfg1.win 0).block.Idx → Elt F (cfg1.win 0).elt) :
    (dat xb so s0 c).before 0 t d = blk (xb c) t.val := by
  rw [(dat xb so s0 c).before_in_eq_fetched 0 rfl (fun _ => rfl) (fun _ _ _ => rfl) (fun _ => rfl) t d]
  exact block_0 xb c t

/-- What the second operand's window holds at each step: all of it. -/
theorem before_1 (c : Dev nD) (t : Fin cfg1.N) (d : (cfg1.win 1).block.Idx → Elt F (cfg1.win 1).elt) :
    (dat xb so s0 c).before 1 t d = so c := by
  rw [(dat xb so s0 c).before_in_eq_fetched 1 rfl (fun _ => rfl) (fun _ _ _ => rfl) (fun _ => rfl) t d]
  exact block_1 so c t

/-- What the result's window holds after the first step: what the step before left there. -/
theorem before_2 (c : Dev nD) (t : Fin cfg1.N) (ht : t.val ≠ 0) (d : (cfg1.win 2).block.Idx → Elt F (cfg1.win 2).elt) :
    (dat xb so s0 c).before 2 t d = fun _ => accum (xb c) t.val := by
  have h : t.val < 125 := point_lt t
  rw [(dat xb so s0 c).before_out_kept 2 rfl t ht (by
      rw [← Bool.not_eq_true]; intro hf
      have := (flush1_2 _).mp hf
      dsimp only at this; omega) (fun _ => rfl) (fun _ _ => rfl) d]
  dsimp only [dat]
  funext _
  rw [if_neg (by omega)]
  exact congrArg _ (by omega)

/-! ## The body obligation -/

/-- The body's first test holds at step 0 only. -/
theorem isFirst_iff (t : Fin cfg1.N) : isFirst (grid1.coords t) = 1#1 ↔ t.val = 0 := by
  have h : t.val < 125 := point_lt t
  unfold isFirst
  rw [coord_val]
  generalize t.val = n at h
  revert h n
  decide +kernel

/-- The body's second test holds at step 124 only. -/
theorem isLast_iff (t : Fin cfg1.N) : isLast (grid1.coords t) = 1#1 ↔ t.val = 124 := by
  have h : t.val < 125 := point_lt t
  unfold isLast
  rw [coord_val]
  generalize t.val = n at h
  revert h n
  decide +kernel

/-- A whole staging buffer owned is its buffer held whole at contents that read as stated. -/
theorem owns_of_whole (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns
  rw [h.set_eq_univ]

/-- At every point the body takes the staging buffers as the pipeline hands them to what the data say it leaves. -/
theorem body_obligation (c : Dev nD) : BodyObligation (dat xb so s0 c) (defs₀ (F := F)) 𝒱₀ none Set.univ := fun t => by
  have hN : t.val < 125 := point_lt t
  rw [bigSep_W1, bigSep_W1]
  dsimp only
  rw [show (defs₀ (F := F)) .tc cfg1.body (cfg1.bodyArgs t (cfg1.slots t)) = bodyAt1 t from rfl]
  simp only [owns_of_whole c (stage1_0 (cfg1.slots t 0)) (hstage1_0 _), owns_of_whole c (stage1_1 (cfg1.slots t 1)) (hstage1_1 _),
    owns_of_whole c (stage1_2 (cfg1.slots t 2)) (hstage1_2 _)]
  rw [show (dat xb so s0 c).Φ t.castSucc = (BI.emp : sProp 𝕄) from rfl, show (dat xb so s0 c).Φ t.succ = (BI.emp : sProp 𝕄) from rfl,
    show (dat xb so s0 c).owesAt none t.succ = (dat xb so s0 c).owesAt none t.castSucc from rfl]
  iintro ⟨-, Howes, ⟨%d0, %f0, %hf0, H0⟩, ⟨%d1, %f1, %hf1, H1⟩, ⟨%d2, %f2, %hf2, H2⟩⟩
  rw [before_0] at hf0
  rw [before_1] at hf1
  by_cases h0 : t.val = 0
  · iapply (body_first c (grid1.coords t) (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      f0 f1 f2 ((isFirst_iff t).mpr h0) (fun h => by have := (isLast_iff t).mp h; omega) Set.univ _)
    isplitl [H0]; · iexact H0
    isplitl [H1]; · iexact H1
    isplitl [H2]; · iexact H2
    iintro ⟨H0, H1, ⟨%f2', %hf2', H2⟩⟩
    isplitr; · iempintro
    isplitl [Howes]; · iexact Howes
    isplitl [H0]; · iexists f0; isplitr; swap; (· iexact H0); ipureintro; exact hf0.trans (block_0 xb c t).symm
    isplitl [H1]; · iexists f1; isplitr; swap; (· iexact H1); ipureintro; exact hf1.trans (block_1 so c t).symm
    iexists f2'; isplitr; swap; (· iexact H2); ipureintro
    refine hf2'.trans ?_
    dsimp only [dat]
    funext _
    rw [if_neg (by omega), h0]
    exact congrArg (k1_pay1 _) (hf0.trans (congrArg _ h0))
  rw [before_2 xb so s0 c t h0] at hf2
  by_cases h1 : t.val = 124
  · iapply (body_last c (grid1.coords t) (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      f0 f1 f2 (fun h => h0 ((isFirst_iff t).mp h)) ((isLast_iff t).mpr h1) Set.univ _)
    isplitl [H0]; · iexact H0
    isplitl [H1]; · iexact H1
    isplitl [H2]; · iexact H2
    iintro ⟨H0, H1, ⟨%f2', %hf2', H2⟩⟩
    isplitr; · iempintro
    isplitl [Howes]; · iexact Howes
    isplitl [H0]; · iexists f0; isplitr; swap; (· iexact H0); ipureintro; exact hf0.trans (block_0 xb c t).symm
    isplitl [H1]; · iexists f1; isplitr; swap; (· iexact H1); ipureintro; exact hf1.trans (block_1 so c t).symm
    iexists f2'; isplitr; swap; (· iexact H2); ipureintro
    refine hf2'.trans ?_
    dsimp only [dat]
    funext _
    rw [if_pos h1]
    exact congrArg₂ k1_pay2 (congrArg₂ k1_pay1 ((congrFun hf2 _).trans (congrArg _ h1)) (hf0.trans (congrArg _ h1))) hf1
  · iapply (body_mid c (grid1.coords t) (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      f0 f1 f2 (fun h => h0 ((isFirst_iff t).mp h)) (fun h => h1 ((isLast_iff t).mp h)) Set.univ _)
    isplitl [H0]; · iexact H0
    isplitl [H1]; · iexact H1
    isplitl [H2]; · iexact H2
    iintro ⟨H0, H1, ⟨%f2', %hf2', H2⟩⟩
    isplitr; · iempintro
    isplitl [Howes]; · iexact Howes
    isplitl [H0]; · iexists f0; isplitr; swap; (· iexact H0); ipureintro; exact hf0.trans (block_0 xb c t).symm
    isplitl [H1]; · iexists f1; isplitr; swap; (· iexact H1); ipureintro; exact hf1.trans (block_1 so c t).symm
    iexists f2'; isplitr; swap; (· iexact H2); ipureintro
    refine hf2'.trans ?_
    dsimp only [dat]
    funext _
    rw [if_neg h1]
    exact congrArg₂ k1_pay1 (congrFun hf2 _) hf0

/-! ## What the pipeline leaves -/

/-- The result's one write-back, at the last point, writes the loss. -/
theorem flushed_loss (c : Dev nD) (t : Fin cfg1.N) (hf : (cfg1.win 2).flush t = true) :
    (dat xb so s0 c).flushed 2 t = ((cfg1.win 2).blk t).view.read (Elt F) (fun _ => loss (xb c) (so c)) := by
  have h := point_lt t
  have h124 : t.val = 124 := by have := (flush1_2 t).mp hf; omega
  show (cfg1.win 2).cut (grid1.coords t) ((dat xb so s0 c).after 2 t) = _
  funext y
  show (if t.val = 124 then loss (xb c) (so c) else accum (xb c) (t.val + 1)) = loss (xb c) (so c)
  rw [if_pos h124]

/-- The last point. -/
def lastPt : Fin cfg1.N := ⟨124, by rw [show cfg1.N = 125 from N_1]; norm_num⟩

/-- So the result's cell ends holding the loss. -/
theorem final_loss (c : Dev nD) : (dat xb so s0 c).arrAt 2 cfg1.N = fun _ => loss (xb c) (so c) :=
  (dat xb so s0 c).arrAt_eq_of_cover 2 (fun _ => loss (xb c) (so c)) (flushed_loss xb so s0 c) fun i =>
    ⟨lastPt, (flush1_2 lastPt).mpr rfl, by
      show i ∈ ((View.whole main_v3).slice (win1_2.rect lastPt)).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1; omega
      | ⟨1, _⟩ => show 0 * 1 ≤ (i 1 : Nat) ∧ (i 1 : Nat) < 0 * 1 + 1; omega⟩

/-! ## The region -/

variable (adm : (p : Fin 1) → (pcfgs (F := F) p).Adm)

/-- The windows' three arrays held whole. -/
abbrev arrs (c : Dev nD) (x : Buf (Elt F) (bLoc c)) (s : Buf (Elt F) (oLoc c)) (r : Buf (Elt F) (sLoc c)) : sProp 𝕄 :=
  iprop((bLoc c ↦{fullShare} x) ∗ (oLoc c ↦{fullShare} s) ∗ sLoc c ↦{fullShare} r)

include adm in
/-- The data's arrays at contents `G` are the three of them. -/
theorem arrays_arrs (c : Dev nD) (G : (w : Fin 3) → Buf (Elt F) ((cfg1.win w).arr.view.loc (c : Thread nD τ))) :
    ((dat xb so s0 c).arrays G : sProp 𝕄) = arrs c (G 0) (G 1) (G 2) := by
  have h := Pipeline.arrays_eq (Pipeline.pin (pcfgs (F := F)) adm) (pdats xb so s0 adm) 0 c launch1.arr_whole
    ((pdats xb so s0 adm 0 c).share_full fun _ => rfl) G
  exact h.trans (bigSep_W1 _)

include adm in
/-- The data's arrays when the region is entered: logits and sums as given, the result's cell at anything. -/
theorem arrays_entry (c : Dev nD) : ((dat xb so s0 c).arrays ((dat xb so s0 c).arrAt · 0) : sProp 𝕄) = arrs c (xb c) (so c) (s0 c) :=
  arrays_arrs xb so s0 adm c _

include adm in
/-- The data's arrays when the region is left: logits and sums unchanged, the result's cell at the loss. -/
theorem arrays_exit (c : Dev nD) : ((dat xb so s0 c).arrays ((dat xb so s0 c).arrAt · cfg1.N) : sProp 𝕄) = arrs c (xb c) (so c) (fun _ => loss (xb c) (so c)) := by
  rw [arrays_arrs xb so s0 adm c, (dat xb so s0 c).arrAt_in 0 rfl, (dat xb so s0 c).arrAt_in 1 rfl, final_loss]
  rfl

set_option backward.isDefEq.respectTransparency.types false in
/-- The region's record: entered holding the three arrays and the core owing nothing, left the same way with the loss written. -/
def reg : Pipeline.RegionSeg (pcfgs (F := F)) adm (pdats xb so s0 adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation xb so s0 c).loose
  hwaits := Pipeline.hwaits_of_owed_zero _ _ _ _ (K (F := F)).L (K (F := F)).lev 0 fun _ _ => rfl
  pre c := iprop(arrs c (xb c) (so c) (s0 c) ∗ ∃ W, owes (c : Thread nD τ) (0 : CellTallies nD τ sig (HIx 1)) W)
  post c := iprop(arrs c (xb c) (so c) (fun _ => loss (xb c) (so c)) ∗ ∃ W, owes (c : Thread nD τ) (0 : CellTallies nD τ sig (HIx 1)) W)
  X _ := BI.emp
  Y _ := BI.emp
  Z _ := BI.emp
  hentry c := by
    rw [Pipeline.ownSems0_none]
    iintro ⟨⟨Ha, HO⟩, -, -⟩
    imodintro
    isplitl [Ha]
    · iapply (Entails.of_eq (arrays_entry xb so s0 adm c).symm); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr <;> iempintro
  hin c := by
    rw [show (pdats xb so s0 adm 0 c).Φ 0 = (BI.emp : sProp 𝕄) from rfl]
    have h : (Pipeline.scopedRest (Ix := HIx 1) (Name := ℕ) (U := UU) (Lvl := ℕ) (Val := Elt F) spec1 c : sProp 𝕄) = BI.emp := scopedRest1_eq c
    iintro ⟨-, -, Hr⟩
    iapply (show (Pipeline.scopedRest (Ix := HIx 1) (Name := ℕ) (U := UU) (Lvl := ℕ) (Val := Elt F) spec1 c : sProp 𝕄) ⊢ BI.emp from by rw [h])
    iexact Hr
  hout c := by
    rw [Pipeline.ownSems0_none, show (pdats xb so s0 adm 0 c).Φ (Fin.last _) = (BI.emp : sProp 𝕄) from rfl]
    have h : (Pipeline.scopedRest (Ix := HIx 1) (Name := ℕ) (U := UU) (Lvl := ℕ) (Val := Elt F) spec1 c : sProp 𝕄) = BI.emp := scopedRest1_eq c
    iintro -
    isplitr; · iempintro
    isplitr; · iempintro
    iapply (show (BI.emp : sProp 𝕄) ⊢ (Pipeline.scopedRest (Ix := HIx 1) (Name := ℕ) (U := UU) (Lvl := ℕ) (Val := Elt F) spec1 c : sProp 𝕄) from by rw [h])
    iempintro
  hexit c := by
    iintro ⟨Ha, HO, -, -⟩
    imodintro
    isplitl [Ha]
    · iapply (Entails.of_eq (arrays_exit xb so s0 adm c)); iexact Ha
    unfold Pipeline.Dat.owesAt Pipeline.owesWithin
    icases HO with ⟨%W, -, HO⟩; iexists W; iexact HO

end Cert.Proof

end
-- ==== Proof.Run.lean ====
/-
  The whole program's run, at any float values: the SparseCore call between two host reshapes, the TensorCore call, the
  last reshape. Every execution ends with the arguments as they were, the result at the loss, every semaphore at zero.
-/
module

public import proofs.«01_k».proof.Proof.Task
public import proofs.«01_k».proof.Proof.Region

@[expose] public section

noncomputable section

namespace Cert.Proof

open Cert.KernelIdeal Cert.KernelIdeal.Gen

open Idealize.ShloMosaic Idealize.ShloMosaic.ValueIdx
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-! ## The tiles' pieces, split out of the whole arrays and joined again -/

/-- Tiles and rows correspond: two SparseCores by sixteen tiles are the thirty-two rows. -/
def rowEmb : Fin 2 × Fin 16 ↪ Fin 32 := ⟨fun p => rowOf p.1 p.2, fun p q h => by
  obtain ⟨a, b⟩ := p
  obtain ⟨a', b'⟩ := q
  have h' := congrArg Fin.val h
  simp only [rowOf] at h'
  refine Prod.ext (Fin.ext ?_) (Fin.ext ?_) <;> simp only <;> omega⟩

/-- The pairs of a SparseCore and a tile name every row of the partial sums. -/
theorem rowEmb_univ : (Finset.univ : Finset (Fin 2 × Fin 16)).map rowEmb = Finset.univ := by
  refine Finset.eq_univ_of_card _ ?_
  rw [Finset.card_map]; rfl

/-- A conjunction over the tiles is one over the rows. -/
theorem bigSep_rows (Φ : Fin 32 → sProp 𝕄) :
    (bigSep Finset.univ fun c : Fin 2 => bigSep Finset.univ fun i : Fin 16 => Φ (rowOf c i)) = bigSep Finset.univ Φ := by
  rw [← rowEmb_univ, BI.bigSep_map, bigSep_univ_prod]; rfl

/-- Two tiles read disjoint parts of the targets. -/
theorem tSet_disjoint : ∀ i ∈ (Finset.univ : Finset (Fin 32)), ∀ j ∈ (Finset.univ : Finset (Fin 32)), i ≠ j → Disjoint (tSet i) (tSet j) :=
  fun _ _ _ _ h => Rect.part_disjoint tdiv h
/-- Two tiles write disjoint rows of the partial sums. -/
theorem oSet_disjoint : ∀ i ∈ (Finset.univ : Finset (Fin 32)), ∀ j ∈ (Finset.univ : Finset (Fin 32)), i ≠ j → Disjoint (oSet i) (oSet j) :=
  fun _ _ _ _ h => Rect.part_disjoint odiv h

/-- The targets held whole are their thirty-two rows held. -/
theorem t_rows (d : Dev nD) (f : Buf (Elt F) (tLoc d)) :
    (tLoc d ↦{fullShare} f : sProp 𝕄) = bigSep Finset.univ fun w : Fin 32 => tLoc d ↦[tSet w]{fullShare} f := by
  rw [← pointsTo_biUnion Finset.univ (ℓ := tLoc d) tSet tSet_disjoint,
    show (Finset.univ : Finset (Fin 32)).biUnion tSet = Finset.univ from Rect.biUnion_part tdiv]
  try rfl

/-- The sums held whole are their thirty-two rows held. -/
theorem o_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_disjoint,
    show (Finset.univ : Finset (Fin 32)).biUnion oSet = Finset.univ from Rect.biUnion_part odiv]
  try rfl

/-- The flat array held whole is its thirty-two read shares held. -/
theorem f_shares (d : Dev nD) (f : Buf (Elt F) (fLoc d)) :
    (fLoc d ↦{fullShare} f : sProp 𝕄) = bigSep Finset.univ fun w : Fin 32 => fLoc d ↦{fShare w} f :=
  pointsTo_piecesOf Finset.univ f (by norm_num) fullShare

section Memory

variable (m : (ℓ : Loc nD τ sig) → Buf (Elt F) ℓ) (g : Dev nD → PrngReg)

/-- The targets, the logits flattened, the logits in rows of 4096, and the sums' array, all at launch. -/
abbrev tg (d : Dev nD) : Buf (Elt F) (tLoc d) := m (tLoc d)
/-- The logits as one long row. -/
def xf (d : Dev nD) : Buf (Elt F) (fLoc d) := shapeCast S102400000 (m (xLoc d) : S1024x100000.Idx → F .f32) shapeCasts_S1024x100000_S102400000
/-- The logits as the rows that the reduction reads. -/
def xb (d : Dev nD) : Buf (Elt F) (bLoc d) := shapeCast S25000x4096 (m (xLoc d) : S1024x100000.Idx → F .f32) shapeCasts_S1024x100000_S25000x4096
/-- The partial sums' array before the launch. -/
abbrev o₀ (d : Dev nD) : Buf (Elt F) (oLoc d) := m (oLoc d)
/-- The tiles' sums of this memory. -/
def so (d : Dev nD) : Buf (Elt F) (oLoc d) := sums (xf m d) (tg m d)

/-- The call's payloads for this memory. -/
abbrev PP : (K (F := F)).Pay (nD := nD) (Val := Elt F) (Name := ℕ) (U := UU) := P (tg m) (xf m) (o₀ m)

/-- What the call is handed is the three arrays whole. -/
theorem st_eq (d : Dev nD) : (bigSep Finset.univ fun c : Fin ((K (F := F)).nCore 0) => (PP m).st 0 d c)
    = iprop((tLoc d ↦{fullShare} tg m d) ∗ (fLoc d ↦{fullShare} xf m d) ∗ oLoc d ↦{fullShare} o₀ m d) := by
  rw [t_rows, f_shares, o_rows, ← bigSep_sep', ← bigSep_sep']
  exact bigSep_rows (fun w => tilePts (tg m) (xf m) d w (o₀ m d))

/-- What it hands back is the three arrays whole, the sums written. -/
theorem dn_eq (d : Dev nD) : (bigSep Finset.univ fun c : Fin ((K (F := F)).nCore 0) => (PP m).dn 0 d c)
    = iprop((tLoc d ↦{fullShare} tg m d) ∗ (fLoc d ↦{fullShare} xf m d) ∗ oLoc d ↦{fullShare} so m d) := by
  rw [t_rows, f_shares, o_rows, ← bigSep_sep', ← bigSep_sep']
  exact bigSep_rows (fun w => tilePts (tg m) (xf m) d w (so m d))

/-! ## The ghost state at launch -/

/-- No table is prefetched. -/
abbrev adm : (p : Fin 1) → (pcfgs (F := F) p).Adm := fun p => (cfgs p).toPCfg_adm

/-- The staging cells are distinct. -/
theorem pinj : Function.Injective (Pipeline.cellOf (nD := nD) (τ := τ) (Pipeline.pin (pcfgs (F := F)) adm)) := cellOf_inj

/-- The launch element: the handshakes' rounds, the staging rounds, no counter. -/
def u₀ : UU := (initOf (K (F := F)).hsCells (K (F := F)).hsToks,
  (initOf (Pipeline.cells (Pipeline.pin (pcfgs (F := F)) adm) pinj) (Pipeline.launchToks (Pipeline.pin (pcfgs (F := F)) adm) pinj), 1))

/-- The pipeline's ghost state on one core. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The launch element gives the handshakes' part and each core's pipeline part. -/
theorem hu₀ : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave HR := (own_pair_emb embR _ _) $$ HR
  icases HR with ⟨HP, -⟩
  ihave HP := (Entails.of_eq (show (BI.own (((Emb.inl : Emb UP (UP × Counters)).trans embR)
      (initOf (Pipeline.cells (Pipeline.pin (pcfgs (F := F)) adm) pinj) (Pipeline.launchToks (Pipeline.pin (pcfgs (F := F)) adm) pinj))) : sProp 𝕄)
    = BI.own (EP (F := F) (initOf (Pipeline.cells (Pipeline.pin (pcfgs (F := F)) adm) pinj) (Pipeline.launchToks (Pipeline.pin (pcfgs (F := F)) adm) pinj))) from rfl)) $$ HP
  imod (Pipeline.fund_ghost (Pipeline.pin (pcfgs (F := F)) adm) (EP (F := F)) pinj) $$ HP with ⟨Hg, Ht⟩
  imodintro
  isplitl [HH]; · iexact HH
  isplitl [Hg Ht]
  · rw [bigSep_sep']
    isplitl [Hg]
    · iapply (Entails.of_eq (show (bigSep Finset.univ fun d : Dev nD => bigSep Finset.univ fun p : Fin 1 => (Pipeline.cellsGhost (Pipeline.pin (pcfgs (F := F)) adm) EP p d : sProp 𝕄))
        = bigSep Finset.univ fun d : Dev nD => Pipeline.cellsGhost (Pipeline.pin (pcfgs (F := F)) adm) EP 0 d from bigSep_congr fun d _ => bigSep_univ_of_subsingleton (0 : Fin 1)))
      iexact Hg
    · iapply (Entails.of_eq (show (bigSep Finset.univ fun d : Dev nD => bigSep Finset.univ fun p : Fin 1 => (Pipeline.toksInit (Pipeline.pin (pcfgs (F := F)) adm) EP p d : sProp 𝕄))
        = bigSep Finset.univ fun d : Dev nD => Pipeline.toksInit (Pipeline.pin (pcfgs (F := F)) adm) EP 0 d from bigSep_congr fun d _ => bigSep_univ_of_subsingleton (0 : Fin 1)))
      iexact Ht
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1)]
  rw [show (bigSep Finset.univ fun _ : Thread nD τ => iprop(emp)) = (iprop(emp) : sProp 𝕄) from bigSep_emp_const _]
  iempintro

/-! ## @main on the TensorCore -/

/-- The core's unscoped buffers are the seven arrays. -/
theorem unscoped_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1) ∗ (fLoc d ↦{fullShare} W main_v0)
      ∗ (oLoc d ↦{fullShare} W main_v1) ∗ (bLoc d ↦{fullShare} W main_v2) ∗ (sLoc d ↦{fullShare} W main_v3) ∗ rLoc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A host reshape, holding its operand's and its result's buffers: the operand's kept, the result's at the operand's
    words in the new shape. -/
theorem wp_reshape (d : Dev nD) (x y : Ref sig .tc) (hne : x ≠ y) (he : x.ty.elt = y.ty.elt) (hn : x.ty.shape.ShapeCasts y.ty.shape) (hx hy)
    (W : Valuation τ sig (Elt F)) (Q : PUnit → sProp 𝕄) :
    iprop(boundary (SparseCore.T d) ∗ ((SparseCore.T d).loc x ↦{fullShare} W (Proc.devRef .tc x)) ∗ ((SparseCore.T d).loc y ↦{fullShare} W (Proc.devRef .tc y))
        ∗ ((boundary (SparseCore.T d) ∗ ((SparseCore.T d).loc x ↦{fullShare} W (Proc.devRef .tc x))
            ∗ (SparseCore.T d).loc y ↦{fullShare} fun i => he ▸ shapeCast y.ty.shape (W (Proc.devRef .tc x)) hn i) -∗ Q ⟨⟩))
      ⊢ wp frame (wpE ((K (F := F)).defs (D (F := F))) 𝒱 (SparseCore.T d) none) Set.univ
          (hlo rfl (StableHlo.reshape (τ := τ) (Val := Elt F) x y he hn hx hy) (fun _ => .ret ⟨⟩)) Q := by
  have hd : (Proc.devRef .tc x : DevRef τ sig) ∉ ({Proc.devRef .tc y} : Finset (DevRef τ sig)) := by
    rw [Finset.mem_singleton]; exact fun h => hne (Proc.devRef_injective _ h)
  have hb : ∀ V : Valuation τ sig (Elt F), (StableHlo.held (SparseCore.T d) (StableHlo.reshape (τ := τ) (Val := Elt F) x y he hn hx hy).bufs V : sProp 𝕄)
      = iprop(((SparseCore.T d).loc x ↦{fullShare} V (Proc.devRef .tc x)) ∗ (SparseCore.T d).loc y ↦{fullShare} V (Proc.devRef .tc y)) := by
    intro V
    unfold StableHlo.held
    rw [StableHlo.reshape_bufs, SparseCore.bigSep_insert' hd, bigSep_singleton]
  have h := StableHlo.wp_hlo_within 𝒱 (SparseCore.T d) none Set.univ (defs := (K (F := F)).defs (D (F := F)))
    (hp := rfl) (op := StableHlo.reshape (τ := τ) (Val := Elt F) x y he hn hx hy) (k := fun _ => .ret ⟨⟩) (S := _) subset_rfl (V := W) (Q := Q) rfl
  rw [hb, hb, StableHlo.reshape_result, StableHlo.reshape_result_ne x y he hn hx hy W hne] at h
  iintro ⟨Hb, Hx, Hy, Hk⟩
  iapply h $$ [Hb Hx Hy]
  · isplitl [Hb]; · iexact Hb
    isplitl [Hx] <;> iassumption
  iintro H
  rw [wp_ret]
  imodintro
  iapply Hk; iexact H

/-- The TensorCore call's statement in @main is the pipeline's entry, lifted over the SparseCore launch. -/
theorem entry_lift : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) := by
  rw [SparseCore.liftProg_op]
  chain_rfl

/-- The pipeline's entry on one core, holding its three arrays and owing nothing: it leaves the loss in the result's cell. -/
theorem region_entry (d : Dev nD) (s0 : (c : Dev nD) → Buf (Elt F) (sLoc c)) (Q : PUnit → sProp 𝕄) :
    iprop(((boundary (SparseCore.T d) ∗ arrs d (xb m d) (so m d) (fun _ => loss (xb m d) (so m d)) ∗ ∃ W, owes (SparseCore.T d) (0 : CellTallies nD τ sig (HIx 1)) W) -∗ Q ⟨⟩)
        ∗ boundary (SparseCore.T d) ∗ (arrs d (xb m d) (so m d) (s0 d) ∗ ∃ W, owes (SparseCore.T d) (0 : CellTallies nD τ sig (HIx 1)) W)
        ∗ levAts (K (F := F)).L (K (F := F)).lev ∗ G (F := F) d)
      ⊢ wp frame (wpE (D (F := F)) 𝒱 (SparseCore.T d) none) Set.univ (.op (.customCall (Pipeline.entry 0) ()) .ret) Q := by
  have h := Pipeline.RegionSeg.wp (pcfgs (F := F)) adm (pdats (xb m) (so m) s0 adm) none pinj (EP (F := F)) defs₀ 𝒱₀ (K (F := F)).L (K (F := F)).lev
    (reg (xb m) (so m) s0 adm) d none (fun u h => nomatch h) .ret Q
  have key : iprop(((boundary (SparseCore.T d) ∗ arrs d (xb m d) (so m d) (fun _ => loss (xb m d) (so m d)) ∗ ∃ W, owes (SparseCore.T d) (0 : CellTallies nD τ sig (HIx 1)) W) -∗ Q ⟨⟩)
        ∗ boundary (SparseCore.T d) ∗ (arrs d (xb m d) (so m d) (s0 d) ∗ ∃ W, owes (SparseCore.T d) (0 : CellTallies nD τ sig (HIx 1)) W)
        ∗ levAts (K (F := F)).L (K (F := F)).lev ∗ G (F := F) d)
      ⊢ (iprop(((boundary (SparseCore.T d) ∗ arrs d (xb m d) (so m d) (fun _ => loss (xb m d) (so m d)) ∗ ∃ W, owes (SparseCore.T d) (0 : CellTallies nD τ sig (HIx 1)) W)
          -∗ wp frame (wpE (D (F := F)) 𝒱 (SparseCore.T d) none) Set.univ (.ret ⟨⟩) Q)
        ∗ boundary (SparseCore.T d) ∗ (arrs d (xb m d) (so m d) (s0 d) ∗ ∃ W, owes (SparseCore.T d) (0 : CellTallies nD τ sig (HIx 1)) W)
        ∗ levAts (K (F := F)).L (K (F := F)).lev ∗ G (F := F) d) : sProp 𝕄) := by
    iintro ⟨Hk, H⟩
    isplitl [Hk]
    · iintro H'
      rw [wp_ret]
      imodintro
      iapply Hk; iexact H'
    iexact H
  exact key.trans h

/-- The TensorCore call in @main, likewise. -/
theorem region_step (d : Dev nD) (s0 : (c : Dev nD) → Buf (Elt F) (sLoc c)) (Q : PUnit → sProp 𝕄) :
    iprop(((boundary (SparseCore.T d) ∗ arrs d (xb m d) (so m d) (fun _ => loss (xb m d) (so m d)) ∗ ∃ W, owes (SparseCore.T d) (0 : CellTallies nD τ sig (HIx 1)) W) -∗ Q ⟨⟩)
        ∗ boundary (SparseCore.T d) ∗ (arrs d (xb m d) (so m d) (s0 d) ∗ ∃ W, owes (SparseCore.T d) (0 : CellTallies nD τ sig (HIx 1)) W)
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  rw [entry_lift]
  exact (region_entry m d s0 Q).trans ((K (F := F)).wp_liftProg (D (F := F)) 𝒱 (SparseCore.T d) Set.univ none (.op (.customCall (Pipeline.entry 0) ()) .ret) Q)

/-- After the one call nothing is owed any more. -/
theorem owed_after (d : Dev nD) : (K (F := F)).Otc (nD := nD) d 1 = 0 := by
  unfold SparseCore.Cfg.Otc
  refine Finset.sum_eq_zero fun q _ => if_neg ?_
  have := q.isLt; omega

/-- The levels of one call stay below the next call's. -/
theorem levels_below (d : Dev nD) (W : Waits sig (HIx 1)) : (K (F := F)).WBelow (SparseCore.T d) W (8 * SparseCore.Cfg.Blocks.fst (Q := 1) (N := 1) 1) := by
  intro p _
  rcases h : p.2 with _ | q
  · exact Nat.zero_le _
  · show 8 * q.val + (K (F := F)).place (SparseCore.T d, p.1) + 1 ≤ 8 * 1
    have h1 := (K (F := F)).place_le_six (SparseCore.T d, p.1)
    have h2 := q.isLt
    omega

/-- After the call the core's state lends the fact that it owes nothing. -/
theorem tcSt_lend (d : Dev nD) : ((K (F := F)).tcSt EH d 1 : sProp 𝕄)
    ⊢ iprop((∃ W, owes (SparseCore.T d) (0 : CellTallies nD τ sig (HIx 1)) W)
      ∗ ((∃ W, owes (SparseCore.T d) (0 : CellTallies nD τ sig (HIx 1)) W) -∗ (K (F := F)).tcSt EH d 1)) := by
  unfold SparseCore.Cfg.tcSt
  rw [owed_after]
  iintro ⟨⟨%W, -, HO⟩, Hr⟩
  isplitl [HO]; · iexists W; iexact HO
  iintro ⟨%W', HO⟩
  isplitl [HO]
  · iexists W'; isplitr; · ipureintro; exact levels_below d W'
    iexact HO
  iexact Hr

/-- The result's contents: the loss. -/
abbrev res (d : Dev nD) : Buf (Elt F) (rLoc d) := fun _ => loss (xb m d) (so m d)

/-- What the core hands over at the end: the arguments as they were, the result at the loss. -/
abbrev FIN (d : Dev nD) : sProp 𝕄 :=
  iprop((xLoc d ↦{fullShare} m (xLoc d)) ∗ (tLoc d ↦{fullShare} m (tLoc d)) ∗ rLoc d ↦{fullShare} res m d)

/-- The memory at launch, and the same with the loss in the TensorCore call's result. -/
abbrev V₀ (d : Dev nD) : Valuation τ sig (Elt F) := fun b => m (d, b)
abbrev V₁ (d : Dev nD) : Valuation τ sig (Elt F) :=
  Function.update (V₀ m d) (Proc.devRef .tc main_v3) (fun _ => loss (xb m d) (so m d) : S1x1.Idx → F .f32)

/-- @main on one device's TensorCore. -/
theorem hmain (κ : GSem nD τ sig → ℕ) (d : Dev nD) :
    iprop((K (F := F)).ctx EH (PP m) κ ∗ (K (F := F)).tcSt EH d 0 ∗ (K (F := F)).tcRes m g d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, ⟨Hx, Ht, Hf, Ho, Hbl, Hs, Hr⟩, Hts, -⟩, HG⟩
  iapply (wp_reshape d main_arg0 main_v0 (by decide) rfl shapeCasts_S1024x100000_S102400000 _ _ (V₀ m d) _)
  isplitl [Hb]; · iexact Hb
  isplitl [Hx]; · iexact Hx
  isplitl [Hf]; · iexact Hf
  iintro ⟨Hb, Hx, Hf⟩
  iapply ((K (F := F)).wp_run (D (F := F)) 𝒱 (EH := EH) (P := PP m) κ d 0)
  isplitr; · iexact Hctx
  isplitl [Hst]; · iexact Hst
  isplitl [Ht Hf Ho]
  · rw [st_eq]
    isplitl [Ht]; · iexact Ht
    isplitl [Hf]; · iexact Hf
    iexact Ho
  iintro ⟨Hst, Hdn⟩
  ihave Hdn' := (Entails.of_eq (dn_eq m d)) $$ Hdn
  icases Hdn' with ⟨Ht, -, Ho⟩
  iapply (wp_reshape d main_arg0 main_v2 (by decide) rfl shapeCasts_S1024x100000_S25000x4096 _ _ (V₀ m d) _)
  isplitl [Hb]; · iexact Hb
  isplitl [Hx]; · iexact Hx
  isplitl [Hbl]; · iexact Hbl
  iintro ⟨Hb, Hx, Hbl⟩
  ihave Hl := (SparseCore.Cfg.ctx_levAts κ) $$ Hctx
  ihave Hst := (Entails.of_eq (show ((K (F := F)).tcSt EH d ((0 : Fin 1).val + 1) : sProp 𝕄) = (K (F := F)).tcSt EH d 1 from rfl)) $$ Hst
  ihave Hst' := (tcSt_lend d) $$ Hst
  icases Hst' with ⟨HO, Hst⟩
  iapply (region_step m d (fun c => m (sLoc c)) _)
  isplitr [Hb Hbl Ho Hs HO Hl HG]; swap
  · isplitl [Hb]; · iexact Hb
    isplitl [Hbl Ho Hs HO]
    · isplitr [HO]; swap; · iexact HO
      isplitl [Hbl]; · iexact Hbl
      isplitl [Ho]; · iexact Ho
      iexact Hs
    isplitl [Hl]; · iexact Hl
    iexact HG
  iintro ⟨Hb, ⟨-, -, Hs⟩, HO⟩
  ihave Hst := Hst $$ HO
  iapply (wp_reshape d main_v3 main_v4 (by decide) rfl shapeCasts_S1x1_S_ _ _ (V₁ m d) _)
  isplitl [Hb]; · iexact Hb
  isplitl [Hs]; · iexact Hs
  isplitl [Hr]; · iexact Hr
  iintro ⟨Hb, -, Hr⟩
  imodintro
  isplitl [Hst]; · iexact Hst
  isplitr [Hb Hts]
  · isplitl [Hx]; · iexact Hx
    isplitl [Ht]; · iexact Ht
    iexact Hr
  isplitl [Hb] <;> iassumption

/-- What a final memory holds on one device. -/
def fq (d : Dev nD) (s' : Phys nD τ sig (Elt F)) : Prop :=
  s'.mem.mem (xLoc d) = m (xLoc d) ∧ s'.mem.mem (tLoc d) = m (tLoc d) ∧ s'.mem.mem (rLoc d) = res m d

/-- What the core hands over fixes the final memory's contents. -/
theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := res m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- The whole program's run: from a memory whose targets are in range, every execution ends with the arguments as they
    were, the result at the loss, and every semaphore at zero. -/
theorem run_main [∀ e, Nonempty (Elt F e)] (hin : InRange (F := F) (tg m)) :
    θ_run (Cert.KernelIdeal.defs (F := F)) (Cert.KernelIdeal.threads (F := F)) ⟨m, fun _ => 0, g⟩ fun r =>
      (∀ c : Dev nD, r.2.mem (xLoc c) = m (xLoc c) ∧ r.2.mem (tLoc c) = m (tLoc c) ∧ r.2.mem (rLoc c) = res m c) ∧ r.2.sem = fun _ => 0 :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tg m) (xf m) (o₀ m) hin)
    (fun q _ => match q with | 0 => SparseCore.Cfg.VecSplit.of_plain (vecSplit (tg m) (xf m) (o₀ m)))
    m g main (fun d => G (F := F) d) (FIN m) (u₀ (F := F)) (sep_elim_left.trans (hu₀ m)) (hmain m g) (fq m) (hfin m) _ (fun _ h hz => ⟨h, hz⟩)

end Memory

end Cert.Proof

end
-- ==== Proof.Same.lean ====
/-
  The program as printed, at the machine's words, and the program with named constants, read there with every named constant at its
  own literal's word, are one program: the run proved for the second is the first's.
-/
module

public import proofs.«01_k».proof.Defs
public import proofs.«01_k».proof.Proof.Gen.Kernel
public import proofs.«01_k».proof.Proof.Gen.KernelIdeal
public import proofs.«01_k».proof.Proof.Run
public import Idealize.ShloMosaic.Lib.Pipeline.Regions

@[expose] public section

noncomputable section

namespace Cert.Proof.Same

open Idealize.ShloMosaic Idealize.SL.Sem

/-- On machine words a named constant is its own literal word. -/
local instance wordNamed : Named Bits where
  named _ _ {φ} w := Scalar.ofBits φ w

local instance : Cert.Kernel.Facts := Cert.Kernel.Gen.facts
local instance : Cert.KernelIdeal.Facts := Cert.KernelIdeal.Gen.facts

/-- The two programs declare the same buffers and semaphores. -/
theorem sig_eq : Cert.Kernel.sig = Cert.KernelIdeal.sig := rfl

/-- The two programs' threads are the same. -/
theorem threads_eq : Cert.Kernel.threads (F := Bits) = Cert.KernelIdeal.threads (F := Bits) := rfl

/-- The two programs' body tables are the same. -/
theorem defs_eq : Cert.Kernel.defs (F := Bits) = Cert.KernelIdeal.defs (F := Bits) := by chain_rfl

/-- The printed program's run at the machine's words: the arguments end as they were, every semaphore at zero. -/
theorem run_kernel (m : (ℓ : Loc Cert.Kernel.nD Cert.Kernel.τ Cert.Kernel.sig) → Buf (Elt Bits) ℓ) (g : Dev Cert.Kernel.nD → PrngReg)
    (hin : InRange (F := Bits) (fun c => m ((c.tc : Thread Cert.Kernel.nD Cert.Kernel.τ).loc Cert.Kernel.main_arg1))) :
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq, threads_eq]
  exact (θ_run _ _ _).mono (fun _ h => ⟨fun c => ⟨(h.1 c).1, (h.1 c).2.1⟩, h.2⟩) (run_main (F := Bits) m g hin)

end Cert.Proof.Same

end
-- ==== Proof.Pre.lean ====
/-
  The two printed preconditions read back: the target words are column numbers, and the logits are finite.
-/
module

public import proofs.«01_k».proof.Defs
public import Idealize.ShloMosaic.Lib.ReduceAll
public import Idealize.ShloMosaic.Lib.WordCmp
public import Idealize.ShloMosaic.Lib.ValueIdxCore
public import Idealize.ShloMosaic.PureOps.Ideal.Laws

@[expose] public section

noncomputable section

namespace Cert.Proof

open Idealize.ShloMosaic Idealize.ShloMosaic.ValueIdx

/-- The two comparisons of one target word, both true: the word is a column number. -/
theorem word_range (w : BitVec 32) (e : IntOp.andi (IntOp.cmpi .sge w 0#32) (IntOp.cmpi .slt w 100000#32) = 1#1) : w.toNat < 100000 := by
  obtain ⟨h1, h2⟩ := IntOp.andi_eq_one.1 e
  rw [IntOp.cmpi_sge] at h1
  rw [IntOp.cmpi_slt] at h2
  simp only [BitVec.toInt_eq_toNat_cond, BitVec.toNat_ofNat, Nat.reducePow, Nat.reduceMod] at h1 h2
  have := w.isLt
  split at h1 <;> split at h2 <;> omega

/-- A scalar has one index. -/
instance : Subsingleton (Shape.Idx ⟨0, ![]⟩) := ⟨fun a b => funext fun i => i.elim0⟩

/-- The first precondition: every target is a column number. -/
theorem range_of_target {F : FTy → Type} [FloatOps F] [Cert.Pre_target_in_range.Facts] (x : FVec F ⟨2, ![1024, 100000]⟩ .f32)
    (t : IVec ⟨1, ![1024]⟩ 32) (h : Cert.Pre_target_in_range.fn x t = fun _ => 1#1) (n : Shape.Idx ⟨1, ![1024]⟩) : (t n).toNat < 100000 :=
  word_range _ (Host.reduce_andi_all _ _ _ _ ix0 (congrFun h ix0) n)

/-- The second precondition: every target is a column number too. -/
theorem range_of_finite {F : FTy → Type} [FloatOps F] [Cert.Pre_finite_and_in_range.Facts] (x : FVec F ⟨2, ![1024, 100000]⟩ .f32)
    (t : IVec ⟨1, ![1024]⟩ 32) (h : Cert.Pre_finite_and_in_range.fn x t = fun _ => 1#1) (n : Shape.Idx ⟨1, ![1024]⟩) : (t n).toNat < 100000 :=
  word_range _ (Host.reduce_andi_all _ _ _ _ ix0 (IntOp.andi_eq_one.1 (congrFun h ix0)).2 n)

/-- The bit of a truth value is one when the value is true. -/
theorem bit_one {b : Bool} : BitVec.ofBool b = 1#1 ↔ b = true := by cases b <;> decide

/-- The positive infinity's word, read ideally. -/
theorem ofBits_inf : Ideal.ofBits .f32 0x7F800000#32 = ⊤ := by simp [Ideal.ofBits, Ideal.ieee]

/-- The second precondition, ideally: no logit is infinite. -/
theorem finite_of_finite [Cert.Pre_finite_and_in_range.Facts] (x : FVec Ideal ⟨2, ![1024, 100000]⟩ .f32)
    (t : IVec ⟨1, ![1024]⟩ 32) (h : Cert.Pre_finite_and_in_range.fn x t = fun _ => 1#1) (i : Shape.Idx ⟨2, ![1024, 100000]⟩) :
    ∃ r : ℝ, x i = (r : EReal) := by
  have e : BitVec.ofBool (decide (max (x i) (-(x i)) < Ideal.ofBits .f32 0x7F800000#32)) = 1#1 :=
    Host.reduce_andi_all _ _ _ _ ix0 (IntOp.andi_eq_one.1 (congrFun h ix0)).1 i
  rw [ofBits_inf, bit_one, decide_eq_true_eq] at e
  generalize x i = y at e ⊢
  induction y using EReal.rec with
  | bot => simp at e
  | top => simp at e
  | coe r => exact ⟨r, rfl⟩

end Cert.Proof

end
-- ==== Proof.Frames.lean ====
/-
  The frame claims and the claim on the named constants.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_target_in_range
public import proofs.«01_k».proof.Proof.Gen.Pre_finite_and_in_range
public import proofs.«01_k».proof.Proof.Same
public import proofs.«01_k».proof.Proof.Run
public import proofs.«01_k».proof.Proof.Pre
public import Idealize.ShloMosaic.Lib.Quiescent

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_target_in_range.Facts := Cert.Pre_target_in_range.Gen.facts
local instance : Cert.Pre_finite_and_in_range.Facts := Cert.Pre_finite_and_in_range.Gen.facts

/-- The printed kernel runs, leaves its arguments and leaves every semaphore at zero, where the targets are in range. -/
theorem frame_kernel : Cert.quiescent_Kernel := fun m g h =>
  Same.run_kernel m g fun d j => range_of_target _ _ (h d) j

/-- The kernel with named constants likewise. -/
theorem frame_ideal : Cert.quiescent_KernelIdeal := fun m g h =>
  (θ_run _ _ _).mono (fun _ h => ⟨fun c => ⟨(h.1 c).1, (h.1 c).2.1⟩, h.2⟩)
    (run_main (F := Ideal) m g fun d j => range_of_target _ _ (h d) j)

/-- The same where the logits are finite as well. -/
theorem frame_ideal_finite : Cert.quiescent_KernelIdeal_pre_finite_and_in_range := fun m g h =>
  (θ_run _ _ _).mono (fun _ h => ⟨fun c => ⟨(h.1 c).1, (h.1 c).2.1⟩, h.2⟩)
    (run_main (F := Ideal) m g fun d j => range_of_finite _ _ (h d) j)

/-- The reference runs, leaves its arguments, and has no semaphore. -/
theorem frame_reference : Cert.quiescent_ReferenceIdeal := fun m g _ =>
  (θ_run _ _ _).mono (fun r h => ⟨fun c => ⟨(h c).2.1, (h c).2.2⟩, sem_eq_zero_of_no_sems (by decide) r.2⟩)
    (Cert.ReferenceIdeal.Value.run (F := Ideal) m g)

/-- The same under the second precondition. -/
theorem frame_reference_finite : Cert.quiescent_ReferenceIdeal_pre_finite_and_in_range := fun m g _ => frame_reference m g trivial

/-- The three named constants: at the machine's words each is the kernel's literal, ideally each is the real number it names. -/
theorem constants : Cert.preserves_Kernel_KernelIdeal :=
  ⟨IdealRules.named_const.statement _ _ _ _ _ rfl, IdealRules.named_const.statement _ _ _ _ _ rfl, IdealRules.named_const.statement _ _ _ _ _ rfl⟩

end Cert.Proof

end
-- ==== Proof.ValueKernel.lean ====
/-
  The kernel's loss over the extended reals: the blocked sum is the sum of every logit, the tiles' sums add up to the sum of every
  target's logit, and the loss is the named constants' combination of the two.
-/
module

public import proofs.«01_k».proof.Proof.Run
public import Idealize.ShloMosaic.PureOps.Ideal.Laws
public import Idealize.ShloMosaic.Lib.ValueIdxCore

@[expose] public section

noncomputable section

namespace Cert.Proof

open Cert.KernelIdeal Cert.KernelIdeal.Gen
open Idealize.ShloMosaic Idealize.ShloMosaic.ValueIdx

/-- A reshaped array has the same sum. -/
theorem sum_shapeCast {s t : Shape} (x : s.Idx → EReal) (h : s.ShapeCasts t) : ∑ j, shapeCast t x h j = ∑ i, x i :=
  Equiv.sum_comp (Shape.reshapeEquiv h) x

/-- A block's total, as the kernel takes it: the block given a leading unit axis, reduced over the other two. -/
theorem total_eq {a b : ℕ} (v : (⟨2, ![a, b]⟩ : Shape).Idx → EReal) (h1 : (⟨2, ![a, b]⟩ : Shape).ShapeCasts ⟨2, ![a, b]⟩)
    (h2 : (⟨2, ![a, b]⟩ : Shape).ShapeCasts ⟨3, ![1, a, b]⟩) (h3 : (⟨3, ![1, a, b]⟩ : Shape).Reduces [1, 2] S1) (hφ : FKind.Formats .f32)
    (hacc : (0x00000000#32 : BitVec 32) = FKind.add.neutral .f32 hφ) (h4 : S1.ShapeCasts S1x1x1) (h5 : ∀ p, (![0, 0, 0] : Fin 3 → ℕ) p < S1x1x1.size p) :
    extractAt (s := S1x1x1) ![0, 0, 0] (shapeCast S1x1x1 (multiReduction (F := Ideal) (φ := .f32) .add [1, 2] S1 (shapeCast ⟨3, ![1, a, b]⟩ (shapeCast ⟨2, ![a, b]⟩ v h1) h2) 0x00000000#32 h3 hφ hacc) h4) h5
      = ∑ i, v i := by
  unfold extractAt
  show multiReduction (F := Ideal) (φ := .f32) .add [1, 2] S1 _ _ h3 hφ hacc _ = _
  rw [Ideal.multiReduction_add_total _ _ h3 (fun b => by fin_cases b; rfl) hφ hacc, sum_shapeCast, sum_shapeCast]

/-- One block's step: the running sum and the block's total. -/
theorem pay1_eq (a : EReal) (v : S200x4096.Idx → EReal) : k1_pay1 (F := Ideal) a v = a + ∑ i, v i :=
  congrArg (a + ·) (total_eq v _ _ _ _ _ _ _)

/-- The last step: the constants' combination of the running sum and the tiles' total. -/
theorem pay2_eq (a : EReal) (v : S32x16.Idx → EReal) : k1_pay2 (F := Ideal) a v
    = (((512 / 5) * (Real.log (43046721 / 111110000000000)) : ℝ) : EReal) - ((1 / 999990 : ℝ) : EReal) * a - ((89999 / 99999 : ℝ) : EReal) * ∑ i, v i := by
  have h1 : Named.named (F := Ideal) κ "smooth" (φ := .f32) 0x35863815#32 = ((1 / 999990 : ℝ) : EReal) :=
    IdealRules.named_const.ideal_named_scalar _ _ _ _ rfl
  have h2 : Named.named (F := Ideal) κ "entropy" (φ := .f32) 0xC4BCF9D7#32 = (((512 / 5) * (Real.log (43046721 / 111110000000000)) : ℝ) : EReal) :=
    IdealRules.named_const.ideal_named_scalar _ _ _ _ rfl
  have h3 : Named.named (F := Ideal) κ "gap" (φ := .f32) 0x3F666656#32 = ((89999 / 99999 : ℝ) : EReal) :=
    IdealRules.named_const.ideal_named_scalar _ _ _ _ rfl
  unfold k1_pay2
  show Named.named (F := Ideal) κ "entropy" (φ := .f32) 0xC4BCF9D7#32 - Named.named (F := Ideal) κ "smooth" (φ := .f32) 0x35863815#32 * a
      - Named.named (F := Ideal) κ "gap" (φ := .f32) 0x3F666656#32 * _ = _
  rw [h1, h2, h3]
  exact congrArg (_ - _ * ·) (total_eq v _ _ _ _ _ _ _)

/-- The running sum after `n` blocks is the sum of the blocks' totals. -/
theorem accum_eq (xb : S25000x4096.Idx → EReal) (n : ℕ) : accum (F := Ideal) xb n = ∑ k ∈ Finset.range n, ∑ i, blk (F := Ideal) xb k i := by
  induction n with
  | zero => exact Ideal.ofBits_zero_f32
  | succ n ih => rw [Finset.sum_range_succ, ← ih]; exact pay1_eq _ _

/-- All 125 blocks: the running sum is the sum of the whole array. -/
theorem accum_all (xb : S25000x4096.Idx → EReal) : accum (F := Ideal) xb 125 = ∑ i, xb i := by
  rw [accum_eq, sum_idx2, Finset.sum_range, ← (finProdFinEquiv (m := 125) (n := 200)).sum_comp, Fintype.sum_prod_type]
  refine Finset.sum_congr rfl fun k _ => ?_
  rw [sum_idx2]
  refine Finset.sum_congr rfl fun r _ => Finset.sum_congr rfl fun c _ => ?_
  show xb (ix2 _ _) = xb (ix2 _ _)
  congr 1
  have e : (200 * k.val + r.val) % 25000 = (finProdFinEquiv (m := 125) (n := 200) (k, r)).val := by
    have := k.isLt; have := r.isLt
    rw [Nat.mod_eq_of_lt (by omega)]
    show _ = r.val + 200 * k.val
    omega
  exact congrArg (fun z => ix2 z c) (Fin.ext e)

/-- The picked word is the row's target's logit. -/
theorem pick_eq (x : S1024x100000.Idx → EReal) (h : S1024x100000.ShapeCasts S102400000) (tg : S1024.Idx → BitVec 32) (n : Fin 1024)
    (ht : (tg (ix1 n)).toNat < 100000) : pick (F := Ideal) (shapeCast S102400000 x h) tg n = x (ix2 n ⟨(tg (ix1 n)).toNat, ht⟩) := by
  unfold pick shapeCast
  congr 1
  refine Shape.reshapeEquiv_eq_of_rowMajor _ ?_
  rw [Shape.rowMajor_val_two, Shape.rowMajor_val_one]
  show n.val * 100000 + (tg (ix1 n)).toNat = (100000 * n.val + (tg (ix1 n)).toNat) % 102400000
  have := n.isLt
  rw [Nat.mod_eq_of_lt (by omega)]
  omega

/-- A sum over 1024 rows, by 32 groups of two halves of 16. -/
theorem sum_rows (f : ℕ → EReal) : ∑ n : Fin 1024, f n.val = ∑ w : Fin 32, ∑ l : Fin 16, (f (32 * w.val + l.val) + f (32 * w.val + 16 + l.val)) := by
  rw [← (finProdFinEquiv (m := 32) (n := 32)).sum_comp, Fintype.sum_prod_type]
  refine Finset.sum_congr rfl fun w _ => ?_
  have e : ∀ l : Fin 32, (finProdFinEquiv (m := 32) (n := 32) (w, l)).val = 32 * w.val + l.val := fun l => by
    show l.val + 32 * w.val = _; omega
  simp only [e]
  rw [Fin.sum_univ_add (a := 16) (b := 16) (fun l : Fin (16 + 16) => f (32 * w.val + l.val)), ← Finset.sum_add_distrib]
  refine Finset.sum_congr rfl fun l _ => ?_
  simp only [Fin.val_castAdd, Fin.val_natAdd, Nat.add_assoc]

/-- The tiles' sums add up to the sum of every row's target's logit. -/
theorem sums_total (x : S1024x100000.Idx → EReal) (h : S1024x100000.ShapeCasts S102400000) (tg : S1024.Idx → BitVec 32)
    (ht : ∀ n : Fin 1024, (tg (ix1 n)).toNat < 100000) :
    ∑ p, sums (F := Ideal) (shapeCast S102400000 x h) tg p = ∑ n : Fin 1024, x (ix2 n ⟨(tg (ix1 n)).toNat, ht n⟩) := by
  have hp : ∀ n : Fin 1024, x (ix2 n ⟨(tg (ix1 n)).toNat, ht n⟩)
      = (fun k : ℕ => if hk : k < 1024 then pick (F := Ideal) (shapeCast S102400000 x h) tg ⟨k, hk⟩ else 0) n.val := fun n => by
    simp only [n.isLt, dif_pos]
    exact (pick_eq x h tg n (ht n)).symm
  rw [Finset.sum_congr rfl fun n _ => hp n,
    sum_rows (fun k : ℕ => if hk : k < 1024 then pick (F := Ideal) (shapeCast S102400000 x h) tg ⟨k, hk⟩ else 0), sum_idx2]
  refine Finset.sum_congr rfl fun w _ => Finset.sum_congr rfl fun l _ => ?_
  have h1 : 32 * w.val + l.val < 1024 := by have := w.isLt; have := l.isLt; omega
  have h2 : 32 * w.val + 16 + l.val < 1024 := by have := w.isLt; have := l.isLt; omega
  simp only [h1, h2, dif_pos]
  show (Ideal.ofBits .f32 0x00000000#32 + pick (F := Ideal) _ tg ⟨32 * w.val + l.val, _⟩) + pick (F := Ideal) _ tg ⟨32 * w.val + 16 + l.val, _⟩ = _
  rw [Ideal.ofBits_zero_f32, zero_add]

/-- The kernel's loss: the constants' combination of the sum of every logit and the sum of every row's target's logit. -/
theorem loss_eq (x : S1024x100000.Idx → EReal) (h : S1024x100000.ShapeCasts S102400000) (h' : S1024x100000.ShapeCasts S25000x4096)
    (tg : S1024.Idx → BitVec 32) (ht : ∀ n : Fin 1024, (tg (ix1 n)).toNat < 100000) :
    loss (F := Ideal) (shapeCast S25000x4096 x h') (sums (F := Ideal) (shapeCast S102400000 x h) tg)
      = (((512 / 5) * (Real.log (43046721 / 111110000000000)) : ℝ) : EReal) - ((1 / 999990 : ℝ) : EReal) * ∑ i, x i
        - ((89999 / 99999 : ℝ) : EReal) * ∑ n : Fin 1024, x (ix2 n ⟨(tg (ix1 n)).toNat, ht n⟩) := by
  unfold loss
  rw [pay2_eq, accum_all, sum_shapeCast, sums_total x h tg ht]

end Cert.Proof

end
-- ==== Proof.ValueRef.lean ====
/-
  The reference's result over the extended reals: the smoothed distribution read at an index, and the sum over every index.
-/
module

public import proofs.«01_k».proof.Proof.Gen.ReferenceIdeal
public import proofs.«01_k».proof.Proof.Gen.ReferenceIdeal.Run
public import proofs.«01_k».proof.Proof.Gen.ReferenceIdeal.Read
public import Idealize.ShloMosaic.Lib.Routing.OpsOne
public import Idealize.ShloMosaic.Lib.Routing.OpsSet
public import Idealize.ShloMosaic.Lib.Affine
public import Idealize.ShloMosaic.PureOps.Ideal.Laws

@[expose] public section

noncomputable section

namespace Cert.Proof.Ref

open Cert.ReferenceIdeal Cert.ReferenceIdeal.Gen Cert.ReferenceIdeal.Read
open Idealize.ShloMosaic Idealize.ShloMosaic.ValueIdx Idealize.ShloMosaic.Routing

/-! ## Where the scatter's updates land -/

/-- Update `i` of a scatter of scalars into a matrix, a row of two index words each, lands at `(r, c)` exactly when the row's words, read
    signed, are `r` and `c`. -/
theorem lands_rows {R C N w : ℕ} (d : ScatterDims (shape2 R C) (shape2 N 2) (shape1 N)) (hiw : d.insertedWindowDims = [0, 1])
    (hsd : d.scatterDimsToOperandDims = [0, 1]) (hivd : d.indexVectorDim = 1) (huw : d.updateWindowDims = []) (idx : IVec (shape2 N 2) w)
    (i : Fin N) (r : Fin R) (c : Fin C) :
    d.resultIdx? (ix1 i) idx = some (ix2 r c) ↔ (idx (ix2 i (0 : Fin 2))).toInt = r.val ∧ (idx (ix2 i (1 : Fin 2))).toInt = c.val := by
  have hm : ∀ q : Fin 2, q ∈ d.scatterDimsToOperandDims := fun q => by rw [hsd]; fin_cases q <;> simp
  have hwin : ∀ q : Fin 2, d.window (ix1 i) q = 0 := fun q => by
    unfold ScatterDims.window
    rw [dif_neg fun h => (of_decide_eq_true (List.mem_filter.1 h).2) (by rw [hiw]; fin_cases q <;> simp)]
  have hi : ∀ (k : ℕ) (X : Fin 1), ((ix1 i : (shape1 N).Idx) X).val = i.val := fun _ X => by
    obtain rfl : X = 0 := Subsingleton.elim _ _
    rfl
  have hsi : ∀ q : Fin 2, d.siIdx (ix1 i) ⟨d.scatterDimsToOperandDims.idxOf q, List.idxOf_lt_length_iff.2 (hm q)⟩ = ix2 i q := fun q => by
    funext b
    apply Fin.ext
    match b with
    | ⟨0, _⟩ =>
      unfold ScatterDims.siIdx
      rw [dif_neg (by rw [hivd]; exact (by decide : (0 : ℕ) ≠ 1))]
      unfold ScatterDims.siCoord
      simp only [Fin.val_cast]
      exact hi 0 _
    | ⟨1, _⟩ =>
      unfold ScatterDims.siIdx
      rw [dif_pos (by rw [hivd])]
      show List.idxOf q d.scatterDimsToOperandDims = q.val
      rw [hsd]
      fin_cases q <;> rfl
  have hstart : ∀ q : Fin 2, d.start (ix1 i) idx q = (idx (ix2 i q)).toInt := fun q => by
    unfold ScatterDims.start
    rw [dif_pos (hm q), hsi]
  rw [resultIdx?_ix2, hstart, hstart, hwin, hwin]
  omega

/-! ## The index words -/

/-- The first index word of a row is the row's number. -/
theorem word_row (t : S1024.Idx → BitVec 32) (i : Fin 1024) : (val_main_v17 (F := Ideal) t (ix2 i (0 : Fin 2))).toInt = i.val := by
  have e : val_main_v17 (F := Ideal) t (ix2 i (0 : Fin 2)) = val_main_v15 (F := Ideal) (ix2 i (0 : Fin 1)) :=
    concatenate_pair_apply_left (t := S1024x2) (s₁ := S1024x1) (s₂ := S1024x1) 1 (val_main_v15 (F := Ideal)) (val_main_v16 (F := Ideal) t)
      concatenates_S1024x1_S1024x1_S1024x2_d1 (ix2 i (0 : Fin 2)) rfl (ix2 i (0 : Fin 1)) (fun b => by
      match b with
      | ⟨0, _⟩ => rfl
      | ⟨1, _⟩ => rfl)
  rw [e, val_main_v15_apply, val_main_v9_apply, val_main_v6_apply, val_main_v5_apply, val_main_c_apply, wrap_of_lt, val_main_v4_apply]
  · show (BitVec.ofNat 32 i.val).toInt = _
    have := i.isLt
    rw [StableHlo.Predicate.toInt_ofNat_small _ (by omega)]
  · rw [val_main_v4_apply]
    show (BitVec.ofNat 32 i.val).toNat < _
    have := i.isLt
    rw [BitVec.toNat_ofNat]
    exact lt_of_le_of_lt (Nat.mod_le _ _) (by omega)

/-- The second index word of a row is the row's target. -/
theorem word_target (t : S1024.Idx → BitVec 32) (i : Fin 1024) (ht : (t (ix1 i)).toNat < 100000) :
    (val_main_v17 (F := Ideal) t (ix2 i (1 : Fin 2))).toInt = (t (ix1 i)).toNat := by
  have e : val_main_v17 (F := Ideal) t (ix2 i (1 : Fin 2)) = val_main_v16 (F := Ideal) t (ix2 i (0 : Fin 1)) :=
    concatenate_pair_apply_right (t := S1024x2) (s₁ := S1024x1) (s₂ := S1024x1) 1 (val_main_v15 (F := Ideal)) (val_main_v16 (F := Ideal) t)
      concatenates_S1024x1_S1024x1_S1024x2_d1 (ix2 i (1 : Fin 2)) rfl rfl (ix2 i (0 : Fin 1)) (fun b hb => by
      match b with
      | ⟨0, _⟩ => rfl
      | ⟨1, _⟩ => exact absurd rfl hb) rfl
  have ei : idx_main_v16 (ix2 i (0 : Fin 1)) = ix1 i := by
    funext a
    match a with
    | ⟨0, _⟩ => rfl
  rw [e, val_main_v16_apply, ei, val_main_v14_apply, val_main_v11_apply, val_main_v10_apply, val_main_c_4_apply, wrap_of_lt _ _ (by omega)]
  rw [BitVec.toInt_eq_toNat_cond, if_pos (by omega)]

/-! ## The distribution -/

/-- The word of 1 is 1. -/
theorem ofBits_one : Ideal.ofBits .f32 0x3F800000#32 = ((1 : ℝ) : EReal) := by
  simp [Ideal.ofBits, Ideal.ieee, -EReal.coe_mul]; norm_num
/-- The word of 10 is 10. -/
theorem ofBits_ten : Ideal.ofBits .f32 0x41200000#32 = ((10 : ℝ) : EReal) := by
  simp [Ideal.ofBits, Ideal.ieee, -EReal.coe_mul]; norm_num
/-- The word of 99999 is 99999. -/
theorem ofBits_others : Ideal.ofBits .f32 0x47C34F80#32 = ((99999 : ℝ) : EReal) := by
  simp [Ideal.ofBits, Ideal.ieee, -EReal.coe_mul]; norm_num

/-- The smoothing weight is a tenth. -/
theorem smoothing_eq (i : S_.Idx) : val_main_v0 (F := Ideal) i = ((1 / 10 : ℝ) : EReal) := by
  show Ideal.div (Ideal.ofBits .f32 0x3F800000#32) (Ideal.ofBits .f32 0x41200000#32) = _
  rw [ofBits_one, ofBits_ten, Ideal.div_coe (by norm_num), ← EReal.coe_mul]
  norm_num

/-- The target's weight is nine tenths. -/
theorem confidence_eq (i : S_.Idx) : val_main_v1 (F := Ideal) i = ((9 / 10 : ℝ) : EReal) := by
  show Ideal.ofBits .f32 0x3F800000#32 - val_main_v0 (F := Ideal) i = _
  rw [smoothing_eq, ofBits_one, ← EReal.coe_sub]
  norm_num

/-- Every other column's weight is a tenth shared by 99999 columns. -/
theorem share_eq (i : S_.Idx) : val_main_v2 (F := Ideal) i = ((1 / 999990 : ℝ) : EReal) := by
  show Ideal.div (val_main_v0 (F := Ideal) i) (Ideal.ofBits .f32 0x47C34F80#32) = _
  rw [smoothing_eq, ofBits_others, Ideal.div_coe (by norm_num), ← EReal.coe_mul]
  norm_num

/-- The distribution at row `a` and column `b`: nine tenths at the row's target, else the others' share. -/
theorem dist_eq (t : S1024.Idx → BitVec 32) (ht : ∀ i : Fin 1024, (t (ix1 i)).toNat < 100000) (a : Fin 1024) (b : Fin 100000) :
    val_main_v19 (F := Ideal) t (ix2 a b) = (((if b = ⟨(t (ix1 a)).toNat, ht a⟩ then 9 / 10 else 1 / 999990 : ℝ)) : EReal) := by
  have lands : ∀ i : Fin 1024, scatter_S1024x100000_S1024x2_S1024_n_01_01_1.resultIdx? (ix1 i) (val_main_v17 (F := Ideal) t) = some (ix2 a b)
      ↔ i = a ∧ b = ⟨(t (ix1 i)).toNat, ht i⟩ := fun i => by
    rw [lands_rows scatter_S1024x100000_S1024x2_S1024_n_01_01_1 rfl rfl rfl rfl, word_row, word_target t i (ht i), Fin.ext_iff, Fin.ext_iff]
    constructor
    · rintro ⟨h1, h2⟩; exact ⟨by omega, by show b.val = (t (ix1 i)).toNat; omega⟩
    · rintro ⟨h1, h2⟩; exact ⟨by omega, by have : b.val = (t (ix1 i)).toNat := h2; omega⟩
  unfold val_main_v19
  by_cases h : b = ⟨(t (ix1 a)).toNat, ht a⟩
  · rw [if_pos h]
    refine scatter_set_hit _ _ _ _ _ _ (fun k _ => ?_) (ix1 a) ((lands a).2 ⟨rfl, h⟩)
    rw [val_main_v18_apply, confidence_eq]
  · rw [if_neg h]
    refine (scatter_set_miss _ _ _ _ _ fun k hk => ?_).trans ?_
    · rw [eq_ix1 k] at hk
      obtain ⟨h1, h2⟩ := (lands _).1 hk
      rw [h1] at h2
      exact h h2
    · rw [val_main_v3_apply, share_eq]

/-! ## The loss -/

/-- A finite sum of reals is the same sum of extended reals. -/
theorem coe_total {ι : Type} [Fintype ι] (f : ι → ℝ) : ((∑ i, f i : ℝ) : EReal) = ∑ i, (f i : EReal) :=
  map_sum (⟨⟨(fun r : ℝ => (r : EReal)), EReal.coe_zero⟩, EReal.coe_add⟩ : ℝ →+ EReal) f Finset.univ

/-- One entry's term, at real logits. -/
theorem term_eq (w r : ℝ) (hw : 0 < w) : (w : EReal) * (Ideal.log (w : EReal) - (r : EReal)) = ((w * (Real.log w - r) : ℝ) : EReal) := by
  have e : Ideal.log (w : EReal) = ((Real.log w : ℝ) : EReal) := if_neg (not_le.2 hw)
  rw [e, ← EReal.coe_sub, ← EReal.coe_mul]

/-- The reference's result at real logits: the sum over rows and columns of the weight times the weight's logarithm less the logit. -/
theorem result_eq (x : S1024x100000.Idx → EReal) (t : S1024.Idx → BitVec 32) (r : Fin 1024 → Fin 100000 → ℝ)
    (hx : ∀ a b, x (ix2 a b) = ((r a b : ℝ) : EReal)) (ht : ∀ i : Fin 1024, (t (ix1 i)).toNat < 100000) (i : S_.Idx) :
    val_main_v23 (F := Ideal) x t i = ((∑ a : Fin 1024, ∑ b : Fin 100000,
      (if b = ⟨(t (ix1 a)).toNat, ht a⟩ then 9 / 10 else 1 / 999990 : ℝ)
        * (Real.log (if b = ⟨(t (ix1 a)).toNat, ht a⟩ then 9 / 10 else 1 / 999990 : ℝ) - r a b) : ℝ) : EReal) := by
  rw [val_main_v23_apply, val_main_cst_6_apply]
  show Ideal.ofBits .f32 0x00000000#32 + _ = _
  rw [Ideal.ofBits_zero_f32, zero_add, sum_idx2, coe_total]
  refine Finset.sum_congr rfl fun a _ => ?_
  rw [coe_total]
  refine Finset.sum_congr rfl fun b _ => ?_
  rw [val_main_v22_apply, val_main_v21_apply, val_main_v20_apply, hx, dist_eq t ht a b]
  have hw : (0 : ℝ) < (if b = ⟨(t (ix1 a)).toNat, ht a⟩ then 9 / 10 else 1 / 999990 : ℝ) := by split <;> norm_num
  generalize (if b = ⟨(t (ix1 a)).toNat, ht a⟩ then 9 / 10 else 1 / 999990 : ℝ) = w at hw ⊢
  exact term_eq w (r a b) hw

end Cert.Proof.Ref

end
-- ==== Proof.Algebra.lean ====
/-
  The two results are one number: the smoothed cross-entropy summed term by term is the constants' combination of the sum of every logit
  and the sum of every row's target's logit. With the two runs, this is the value claim.
-/
module

public import proofs.«01_k».proof.Defs
public import proofs.«01_k».proof.Proof.Frames
public import proofs.«01_k».proof.Proof.ValueKernel
public import proofs.«01_k».proof.Proof.ValueRef

@[expose] public section

noncomputable section

namespace Cert.Proof

open Idealize.ShloMosaic Idealize.ShloMosaic.ValueIdx Idealize.SL.Sem

/-- One row: a sum whose weight is `C` at column `t` and `S` elsewhere, against the row's sum and the entry at `t`. -/
theorem row_sum {N : ℕ} (C S lC lS : ℝ) (t : Fin N) (r : Fin N → ℝ) :
    ∑ b, (if b = t then C else S) * ((if b = t then lC else lS) - r b)
      = N * (S * lS) + (C * lC - S * lS) - S * ∑ b, r b - (C - S) * r t := by
  have e : ∀ b, (if b = t then C else S) * ((if b = t then lC else lS) - r b)
      = (S * lS - S * r b) + (if b = t then (C * lC - S * lS) - (C - S) * r b else 0) := fun b => by
    by_cases h : b = t
    · rw [if_pos h, if_pos h, if_pos h]; ring
    · rw [if_neg h, if_neg h, if_neg h]; ring
  rw [Finset.sum_congr rfl fun b _ => e b, Finset.sum_add_distrib, Finset.sum_sub_distrib, Finset.sum_ite_eq' Finset.univ t, if_pos (Finset.mem_univ t),
    Finset.sum_const, Finset.card_univ, Fintype.card_fin, nsmul_eq_mul, ← Finset.mul_sum]
  ring

/-- The entropy constant: the logarithms of the two weights, weighted, over all rows. -/
theorem entropy_eq : (1024 : ℝ) * (100000 * ((1 / 999990) * Real.log (1 / 999990)) + (9 / 10 * Real.log (9 / 10) - 1 / 999990 * Real.log (1 / 999990)))
    = (512 / 5) * Real.log (43046721 / 111110000000000) := by
  have e : (43046721 / 111110000000000 : ℝ) = (1 / 999990) * (9 / 10) ^ 9 := by norm_num
  rw [e, Real.log_mul (by norm_num) (by norm_num), Real.log_pow]
  push_cast
  ring

/-- The reference's sum over rows and columns, over the reals. -/
theorem total_real (r : Fin 1024 → Fin 100000 → ℝ) (t : Fin 1024 → Fin 100000) :
    ∑ a, ∑ b, (if b = t a then 9 / 10 else 1 / 999990 : ℝ) * (Real.log (if b = t a then 9 / 10 else 1 / 999990 : ℝ) - r a b)
      = (512 / 5) * Real.log (43046721 / 111110000000000) - (1 / 999990) * ∑ a, ∑ b, r a b - (89999 / 99999) * ∑ a, r a (t a) := by
  have e : ∀ a, ∑ b, (if b = t a then 9 / 10 else 1 / 999990 : ℝ) * (Real.log (if b = t a then 9 / 10 else 1 / 999990 : ℝ) - r a b)
      = (100000 * ((1 / 999990) * Real.log (1 / 999990)) + (9 / 10 * Real.log (9 / 10) - 1 / 999990 * Real.log (1 / 999990)))
        - (1 / 999990) * ∑ b, r a b - (89999 / 99999) * r a (t a) := fun a => by
    have h := row_sum (9 / 10) (1 / 999990) (Real.log (9 / 10)) (Real.log (1 / 999990)) (t a) (r a)
    have g : (9 / 10 - 1 / 999990 : ℝ) = 89999 / 99999 := by norm_num
    rw [g] at h
    refine Eq.trans (Finset.sum_congr rfl fun b _ => ?_) (h.trans ?_)
    · rw [apply_ite Real.log]
    · norm_num
  rw [Finset.sum_congr rfl fun a _ => e a, Finset.sum_sub_distrib, Finset.sum_sub_distrib, Finset.sum_const, Finset.card_univ, Fintype.card_fin,
    nsmul_eq_mul, ← Finset.mul_sum, ← Finset.mul_sum, ← entropy_eq]
  norm_num

local instance : Cert.KernelIdeal.Facts := Cert.KernelIdeal.Gen.facts
local instance : Cert.ReferenceIdeal.Facts := Cert.ReferenceIdeal.Gen.facts
local instance : Cert.Pre_finite_and_in_range.Facts := Cert.Pre_finite_and_in_range.Gen.facts

/-- The kernel's loss and the reference's result agree at finite logits and targets in range. -/
theorem values_eq (x : Cert.KernelIdeal.S1024x100000.Idx → EReal) (t : Cert.KernelIdeal.S1024.Idx → BitVec 32)
    (h : Cert.KernelIdeal.S1024x100000.ShapeCasts Cert.KernelIdeal.S102400000) (h' : Cert.KernelIdeal.S1024x100000.ShapeCasts Cert.KernelIdeal.S25000x4096)
    (hx : ∀ i, ∃ r : ℝ, x i = (r : EReal)) (ht : ∀ i, (t i).toNat < 100000) (i : Cert.ReferenceIdeal.S_.Idx) :
    Cert.ReferenceIdeal.Read.val_main_v23 (F := Ideal) x t i
      = loss (F := Ideal) (shapeCast Cert.KernelIdeal.S25000x4096 x h') (sums (F := Ideal) (shapeCast Cert.KernelIdeal.S102400000 x h) t) := by
  choose r hr using hx
  rw [Ref.result_eq x t (fun a b => r (ix2 a b)) (fun a b => hr _) (fun n => ht _) i, loss_eq x h h' t (fun n => ht _),
    total_real (fun a b => r (ix2 a b)) (fun a => ⟨(t (ix1 a)).toNat, ht _⟩)]
  have e1 : ∑ i, x i = ((∑ a : Fin 1024, ∑ b : Fin 100000, r (ix2 a b) : ℝ) : EReal) := by
    rw [sum_idx2, Ref.coe_total]
    refine Finset.sum_congr rfl fun a _ => ?_
    rw [Ref.coe_total]
    exact Finset.sum_congr rfl fun b _ => hr _
  have e2 : ∑ n : Fin 1024, x (ix2 n ⟨(t (ix1 n)).toNat, ht _⟩) = ((∑ a : Fin 1024, r (ix2 a ⟨(t (ix1 a)).toNat, ht _⟩) : ℝ) : EReal) := by
    rw [Ref.coe_total]
    exact Finset.sum_congr rfl fun b _ => hr _
  rw [e1, e2, ← EReal.coe_mul, ← EReal.coe_mul, ← EReal.coe_sub, ← EReal.coe_sub]

/-- The value claim: at finite logits and targets in range, the kernel and the reference run, end with the same result, and leave their
    arguments as they were. -/
theorem values : Cert.algebraic_KernelIdeal_ReferenceIdeal_pre_finite_and_in_range := fun m g m' g' hpre hargs => by
  refine ⟨fun c => res (F := Ideal) m c, ?_, ?_⟩
  · exact (θ_run _ _ _).mono (fun r h c => ⟨(h.1 c).2.2, (h.1 c).1, (h.1 c).2.1⟩)
      (run_main (F := Ideal) m g fun d j => range_of_finite _ _ (hpre d) j)
  · refine (θ_run _ _ _).mono (fun r h c => ⟨(h c).1.trans ?_, (h c).2.1, (h c).2.2⟩) (Cert.ReferenceIdeal.Value.run (F := Ideal) m' g')
    refine (Cert.ReferenceIdeal.Read.val_main_v23_eq (F := Ideal) _ _).trans ?_
    rw [(hargs c).1, (hargs c).2]
    exact funext fun i => values_eq _ _ _ _ (finite_of_finite _ _ (hpre c)) (range_of_finite _ _ (hpre c)) i

end Cert.Proof

end
-- ==== Proof.lean ====
/-
  The certificate: the programs' facts, the frames of the kernel, of its ideal program and of the reference, the agreement of the
  constants, and the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_target_in_range
public import proofs.«01_k».proof.Proof.Gen.Pre_finite_and_in_range
public import proofs.«01_k».proof.Proof.Frames
public import proofs.«01_k».proof.Proof.Algebra

@[expose] public section

noncomputable section

namespace Cert.Proof

/-- Every claim of the certificate: each program ends without fault, leaves its arguments and has every counter at zero; the ideal
    program is the kernel over the extended reals; kernel and reference compute the same loss at finite logits and targets in range. -/
theorem claim : Cert.Claim := ⟨Cert.Kernel.Gen.facts, Cert.KernelIdeal.Gen.facts, Cert.ReferenceIdeal.Gen.facts,
  Cert.Pre_target_in_range.Gen.facts, Cert.Pre_finite_and_in_range.Gen.facts,
  frame_kernel, frame_ideal, frame_ideal_finite, frame_reference, frame_reference_finite, constants, values⟩

end Cert.Proof

end
